-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S65536x6144 : Shape := ⟨2, ![65536, 6144]⟩
abbrev S4 : Shape := ⟨1, ![4]⟩
abbrev S4x6144x4096 : Shape := ⟨3, ![4, 6144, 4096]⟩
abbrev S4x4096 : Shape := ⟨2, ![4, 4096]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S65536x6144 .bf16) (main_arg1 : IVec S4 32) (main_arg2 : FVec F S4 .f32) (main_arg3 : FVec F S4x6144x4096 .fp8e4m3) (main_arg4 : FVec F S4x4096 .f32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 65536#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_c_2 : IVec S_ 32 := constantI S_ 32 0#32
  let main_v6 : IVec S_ 32 := (fun x v => Host.reduce IntOp.addi x v reducesTo_S4_S_d0 h_S_) main_arg1 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S65536x6144 : Shape := ⟨2, ![65536, 6144]⟩
abbrev S4 : Shape := ⟨1, ![4]⟩
abbrev S4x6144x4096 : Shape := ⟨3, ![4, 6144, 4096]⟩
abbrev S4x4096 : Shape := ⟨2, ![4, 4096]⟩
abbrev S_ : Shape := ⟨0, ![]⟩
abbrev S259 : Shape := ⟨1, ![259]⟩
abbrev S1 : Shape := ⟨1, ![1]⟩
abbrev S259x1 : Shape := ⟨2, ![259, 1]⟩
abbrev S1x4 : Shape := ⟨2, ![1, 4]⟩
abbrev S259x4 : Shape := ⟨2, ![259, 4]⟩
abbrev S4x1x4096 : Shape := ⟨3, ![4, 1, 4096]⟩
abbrev S65536x2048 : Shape := ⟨2, ![65536, 2048]⟩
abbrev S256x6144 : Shape := ⟨2, ![256, 6144]⟩
abbrev S1x6144x4096 : Shape := ⟨3, ![1, 6144, 4096]⟩
abbrev S1x1x4096 : Shape := ⟨3, ![1, 1, 4096]⟩
abbrev S256x2048 : Shape := ⟨2, ![256, 2048]⟩
abbrev S256x256 : Shape := ⟨2, ![256, 256]⟩
abbrev S1x6144x256 : Shape := ⟨3, ![1, 6144, 256]⟩
abbrev S6144x256 : Shape := ⟨2, ![6144, 256]⟩
abbrev S1x1x256 : Shape := ⟨3, ![1, 1, 256]⟩
abbrev S1x256 : Shape := ⟨2, ![1, 256]⟩

abbrev nBuf : Space → Nat
  | .hbm => 96
  | .vmem => 9
  | .smem => 6
  | _ => 0

abbrev bufTy : (tb : Table) → Fin (tcTables nBuf tb) → BufTy
  | .hbm, ⟨0, _⟩ => ⟨S65536x6144, .bf16⟩
  | .hbm, ⟨1, _⟩ => ⟨S4, .i32⟩
  | .hbm, ⟨2, _⟩ => ⟨S4, .f32⟩
  | .hbm, ⟨3, _⟩ => ⟨S4x6144x4096, .fp8e4m3⟩
  | .hbm, ⟨4, _⟩ => ⟨S4x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S4, .i1⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S_, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i1⟩
  | .hbm, ⟨39, _⟩ => ⟨S4, .i32⟩
  | .hbm, ⟨40, _⟩ => ⟨S4, .i32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S4, .i1⟩
  | .hbm, ⟨45, _⟩ => ⟨S_, .i32⟩
  | .hbm, ⟨46, _⟩ => ⟨S4, .i32⟩
  | .hbm, ⟨47, _⟩ => ⟨S4, .i32⟩
  | .hbm, ⟨48, _⟩ => ⟨S4, .i32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S_, .i32⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S_, .i32⟩
  | .hbm, ⟨58, _⟩ => ⟨S_, .i32⟩
  | .hbm, ⟨59, _⟩ => ⟨S4, .i32⟩
  | .hbm, ⟨60, _⟩ => ⟨S259, .i32⟩
  | .hbm, ⟨61, _⟩ => ⟨S1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S259, .i32⟩
  | .hbm, ⟨66, _⟩ => ⟨S259, .i32⟩
  | .hbm, ⟨67, _⟩ => ⟨S259x1, .i32⟩
  | .hbm, ⟨68, _⟩ => ⟨S1x4, .i32⟩
  | .hbm, ⟨69, _⟩ => ⟨S259x4, .i32⟩
  | .hbm, ⟨70, _⟩ => ⟨S259x4, .i32⟩
  | .hbm, ⟨71, _⟩ => ⟨S259x4, .i1⟩
  | .hbm, ⟨72, _⟩ => ⟨S259x4, .i32⟩
  | .hbm, ⟨73, _⟩ => ⟨S_, .i32⟩
  | .hbm, ⟨74, _⟩ => ⟨S_, .i32⟩
  | .hbm, ⟨75, _⟩ => ⟨S259, .i32⟩
  | .hbm, ⟨76, _⟩ => ⟨S259, .i1⟩
  | .hbm, ⟨77, _⟩ => ⟨S_, .i32⟩
  | .hbm, ⟨78, _⟩ => ⟨S259, .i32⟩
  | .hbm, ⟨79, _⟩ => ⟨S259, .i32⟩
  | .hbm, ⟨80, _⟩ => ⟨S259, .i32⟩
  | .hbm, ⟨81, _⟩ => ⟨S259x1, .i32⟩
  | .hbm, ⟨82, _⟩ => ⟨S259, .i32⟩
  | .hbm, ⟨83, _⟩ => ⟨S259, .i32⟩
  | .hbm, ⟨84, _⟩ => ⟨S4, .i32⟩
  | .hbm, ⟨85, _⟩ => ⟨S_, .i32⟩
  | .hbm, ⟨86, _⟩ => ⟨S259, .i32⟩
  | .hbm, ⟨87, _⟩ => ⟨S259, .i1⟩
  | .hbm, ⟨88, _⟩ => ⟨S_, .i32⟩
  | .hbm, ⟨89, _⟩ => ⟨S259, .i32⟩
  | .hbm, ⟨90, _⟩ => ⟨S259, .i32⟩
  | .hbm, ⟨91, _⟩ => ⟨S259, .i32⟩
  | .hbm, ⟨92, _⟩ => ⟨S259x1, .i32⟩
  | .hbm, ⟨93, _⟩ => ⟨S259, .i32⟩
  | .hbm, ⟨94, _⟩ => ⟨S4x1x4096, .f32⟩
  | .hbm, ⟨95, _⟩ => ⟨S65536x2048, .bf16⟩
  | .local _ .vmem, ⟨0, _⟩ => ⟨S256x6144, .bf16⟩
  | .local _ .vmem, ⟨1, _⟩ => ⟨S256x6144, .bf16⟩
  | .local _ .vmem, ⟨2, _⟩ => ⟨S1x6144x4096, .fp8e4m3⟩
  | .local _ .vmem, ⟨3, _⟩ => ⟨S1x6144x4096, .fp8e4m3⟩
  | .local _ .vmem, ⟨4, _⟩ => ⟨S1x1x4096, .f32⟩
  | .local _ .vmem, ⟨5, _⟩ => ⟨S1x1x4096, .f32⟩
  | .local _ .vmem, ⟨6, _⟩ => ⟨S256x2048, .bf16⟩
  | .local _ .vmem, ⟨7, _⟩ => ⟨S256x2048, .bf16⟩
  | .local _ .vmem, ⟨8, _⟩ => ⟨S256x6144, .fp8e4m3⟩
  | .local _ .smem, ⟨0, _⟩ => ⟨S259, .i32⟩
  | .local _ .smem, ⟨1, _⟩ => ⟨S259, .i32⟩
  | .local _ .smem, ⟨2, _⟩ => ⟨S1, .i32⟩
  | .local _ .smem, ⟨3, _⟩ => ⟨S4, .i32⟩
  | .local _ .smem, ⟨4, _⟩ => ⟨S4, .i32⟩
  | .local _ .smem, ⟨5, _⟩ => ⟨S4, .f32⟩
  | _, _ => ⟨S65536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_5 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_6 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_c_8 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_9 : Ref sig .tc := ⟨.hbm, 85, rfl⟩
abbrev main_v35 : Ref sig .tc := ⟨.hbm, 86, rfl⟩
abbrev main_v36 : Ref sig .tc := ⟨.hbm, 87, rfl⟩
abbrev main_c_10 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v44 : Ref sig .tc := ⟨.hbm, 94, rfl⟩
abbrev main_v45 : Ref sig .tc := ⟨.hbm, 95, rfl⟩
abbrev main_v25 : Ref sig .tc := ⟨.smem, 0, rfl⟩
abbrev main_v42 : Ref sig .tc := ⟨.smem, 1, rfl⟩
abbrev main_v43 : Ref sig .tc := ⟨.smem, 2, rfl⟩
abbrev main_v1 : Ref sig .tc := ⟨.smem, 3, rfl⟩
abbrev main_v0 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![259], ![false]⟩

abbrev pre0 : Pipeline.Prefetch sig := ⟨5, ![main_v25.idx, main_v42.idx, main_v43.idx, main_v1.idx, main_v0.idx], fun | 0 => main_v25.names | 1 => main_v42.names | 2 => main_v43.names | 3 => main_v1.names | 4 => main_v0.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (v5 : BitVec 32) : Fin 1 → Nat :=
  let v6 : Index := Scalar.indexCast v5
  ![v6.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v5 : BitVec 32) : Prop :=
  (∀ (k0_h1 : k0_cond1 i v0 = 1#1), ∀ a, (k0_off3 v5) a + S1.size a ≤ S4.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1.size a ≤ S4.size a := fun i v0 v5 k0_hw1 k0_h1 => k0_hw1 k0_h1

def k0_off4 (i : grid0.Coords) : Fin 1 → Nat :=
  let arg0 : BitVec 32 := BitVec.ofNat 32 (i 0).val
  let v20 : Index := Scalar.indexCast arg0
  ![v20.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S259.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S259) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S259.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S259) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S259.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S259) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S259.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S259) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6144x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x6144 : Shape := ⟨2, ![65536, 6144]⟩
abbrev S4 : Shape := ⟨1, ![4]⟩
abbrev S4x6144x4096 : Shape := ⟨3, ![4, 6144, 4096]⟩
abbrev S4x4096 : Shape := ⟨2, ![4, 4096]⟩
abbrev S65536x2048 : Shape := ⟨2, ![65536, 2048]⟩
abbrev S65536x1 : Shape := ⟨2, ![65536, 1]⟩
abbrev S1 : Shape := ⟨1, ![1]⟩
abbrev S65536x4096 : Shape := ⟨2, ![65536, 4096]⟩
abbrev S1x6144x4096 : Shape := ⟨3, ![1, 6144, 4096]⟩
abbrev S6144x4096 : Shape := ⟨2, ![6144, 4096]⟩
abbrev S1x4096 : Shape := ⟨2, ![1, 4096]⟩

abbrev nBuf : Space → Nat
  | .hbm => 6
  | .vmem => 4
  | .smem => 2
  | _ => 0

abbrev bufTy : (tb : Table) → Fin (tcTables nBuf tb) → BufTy
  | .hbm, ⟨0, _⟩ => ⟨S65536x6144, .bf16⟩
  | .hbm, ⟨1, _⟩ => ⟨S4, .i32⟩
  | .hbm, ⟨2, _⟩ => ⟨S4, .f32⟩
  | .hbm, ⟨3, _⟩ => ⟨S4x6144x4096, .fp8e4m3⟩
  | .hbm, ⟨4, _⟩ => ⟨S4x4096, .f32⟩
  | .hbm, ⟨5, _⟩ => ⟨S65536x2048, .bf16⟩
  | .local _ .vmem, ⟨0, _⟩ => ⟨S65536x6144, .bf16⟩
  | .local _ .vmem, ⟨1, _⟩ => ⟨S4x6144x4096, .fp8e4m3⟩
  | .local _ .vmem, ⟨2, _⟩ => ⟨S4x4096, .f32⟩
  | .local _ .vmem, ⟨3, _⟩ => ⟨S65536x2048, .bf16⟩
  | .local _ .smem, ⟨0, _⟩ => ⟨S4, .i32⟩
  | .local _ .smem, ⟨1, _⟩ => ⟨S4, .f32⟩
  | _, _ => ⟨S65536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6144x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Entry.lean ====
/- The kernel's buffers when its grid starts: what the host operations before it leave, the argument arrays among
   them as launched, and the prefetched tables. -/
module

public import proofs.«01_k».proof.Proof.Gen.Kernel.Launch
public import proofs.«01_k».proof.Proof.Gen.Kernel.Skeleton
public import Idealize.ShloMosaic.Lib.Pipeline.Frame

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers when the grid starts: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program is the host operations, then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the grid starts (there is one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

abbrev tbM0_0 : Memref sig .tc .smem S259 .i32 := Memref.whole main_v25
abbrev htbM0_0 : tbM0_0.IsWhole := Memref.isWhole_whole _
abbrev tbM0_1 : Memref sig .tc .smem S259 .i32 := Memref.whole main_v42
abbrev htbM0_1 : tbM0_1.IsWhole := Memref.isWhole_whole _
abbrev tbM0_2 : Memref sig .tc .smem S1 .i32 := Memref.whole main_v43
abbrev htbM0_2 : tbM0_2.IsWhole := Memref.isWhole_whole _
abbrev tbM0_3 : Memref sig .tc .smem S4 .i32 := Memref.whole main_v1
abbrev htbM0_3 : tbM0_3.IsWhole := Memref.isWhole_whole _
abbrev tbM0_4 : Memref sig .tc .smem S4 .i32 := Memref.whole main_v0
abbrev htbM0_4 : tbM0_4.IsWhole := Memref.isWhole_whole _

/-- A table's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the body is handed, table by table. -/
theorem PhiT0_eq (T : pre0.Contents (Elt F)) (c : Dev nD) : (Pipeline.ΦT pre0 T c : sProp 𝕄) = iprop(tbPt0 c tbM0_0 (T 0) ∗ tbPt0 c tbM0_1 (T 1) ∗ tbPt0 c tbM0_2 (T 2) ∗ tbPt0 c tbM0_3 (T 3) ∗ tbPt0 c tbM0_4 (T 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

end Cert.Kernel.Hand

end
-- ==== Proof.Kernel.Body.lean ====
/- What the kernel's body leaves: over the contents of its operands' buffers, the output's buffer in closed form, eight
   column chunks of one function; and the body's triple, at a live work item and at a dead one. -/
module

public import proofs.«01_k».proof.Proof.Kernel.Entry
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The one word of an SMEM memref at a rectangle of one element. -/
abbrev wd {S : Shape} {e : EltTy} (c : Dev nD) (M : Memref sig .tc .smem S e) (r : Rect S) (h1 : r.shape.numel = 1) (f : Buf (Elt F) (M.view.loc (c : Thread nD τ))) : Elt F e :=
  M.view.readAt (Elt F) r.toLoadRect f (Shape.Idx.first (h1.symm ▸ Nat.one_pos))

/-- One chunk of 256 columns: `mask` picks the rows that are the expert's; the others keep `old`. -/
def chunkV (s : Elt F .f32) (mask : IVec S256x256 1) (xq : Vec F S256x6144 .fp8e4m3) (wg wu : Vec F S1x6144x256 .fp8e4m3)
    (sg su : Vec F S1x1x256 .f32) (old : Vec F S256x256 .bf16) : Vec F S256x256 .bf16 :=
  k0_pay6 s mask (k0_pay4 xq wg) (k0_pay5 xq wu) sg su old

/-- The eight chunks' stores, the last first. -/
def outL (s : Elt F .f32) (mask : IVec S256x256 1) (xq : Vec F S256x6144 .fp8e4m3) (w : Vec F S1x6144x4096 .fp8e4m3)
    (ws : Vec F S1x1x4096 .f32) (Y : Vec F S256x2048 .bf16) : List (View.Piece (Elt F) S256x2048 .bf16) :=
  [⟨Rect.unit (s := S256x2048) ![0, 1792] S256x256.size inb_S256x2048_S256x256_0_1792, chunkV s mask xq (View.ld w (Rect.unit (s := S1x6144x4096) ![0, 0, 1792] S1x6144x256.size inb_S1x6144x4096_S1x6144x256_0_0_1792))
      (View.ld w (Rect.unit (s := S1x6144x4096) ![0, 0, 3840] S1x6144x256.size inb_S1x6144x4096_S1x6144x256_0_0_3840)) (View.ld ws (Rect.unit (s := S1x1x4096) ![0, 0, 1792] S1x1x256.size inb_S1x1x4096_S1x1x256_0_0_1792))
      (View.ld ws (Rect.unit (s := S1x1x4096) ![0, 0, 3840] S1x1x256.size inb_S1x1x4096_S1x1x256_0_0_3840)) (View.ld Y (Rect.unit (s := S256x2048) ![0, 1792] S256x256.size inb_S256x2048_S256x256_0_1792))⟩,
    ⟨Rect.unit (s := S256x2048) ![0, 1536] S256x256.size inb_S256x2048_S256x256_0_1536, chunkV s mask xq (View.ld w (Rect.unit (s := S1x6144x4096) ![0, 0, 1536] S1x6144x256.size inb_S1x6144x4096_S1x6144x256_0_0_1536))
      (View.ld w (Rect.unit (s := S1x6144x4096) ![0, 0, 3584] S1x6144x256.size inb_S1x6144x4096_S1x6144x256_0_0_3584)) (View.ld ws (Rect.unit (s := S1x1x4096) ![0, 0, 1536] S1x1x256.size inb_S1x1x4096_S1x1x256_0_0_1536))
      (View.ld ws (Rect.unit (s := S1x1x4096) ![0, 0, 3584] S1x1x256.size inb_S1x1x4096_S1x1x256_0_0_3584)) (View.ld Y (Rect.unit (s := S256x2048) ![0, 1536] S256x256.size inb_S256x2048_S256x256_0_1536))⟩,
    ⟨Rect.unit (s := S256x2048) ![0, 1280] S256x256.size inb_S256x2048_S256x256_0_1280, chunkV s mask xq (View.ld w (Rect.unit (s := S1x6144x4096) ![0, 0, 1280] S1x6144x256.size inb_S1x6144x4096_S1x6144x256_0_0_1280))
      (View.ld w (Rect.unit (s := S1x6144x4096) ![0, 0, 3328] S1x6144x256.size inb_S1x6144x4096_S1x6144x256_0_0_3328)) (View.ld ws (Rect.unit (s := S1x1x4096) ![0, 0, 1280] S1x1x256.size inb_S1x1x4096_S1x1x256_0_0_1280))
      (View.ld ws (Rect.unit (s := S1x1x4096) ![0, 0, 3328] S1x1x256.size inb_S1x1x4096_S1x1x256_0_0_3328)) (View.ld Y (Rect.unit (s := S256x2048) ![0, 1280] S256x256.size inb_S256x2048_S256x256_0_1280))⟩,
    ⟨Rect.unit (s := S256x2048) ![0, 1024] S256x256.size inb_S256x2048_S256x256_0_1024, chunkV s mask xq (View.ld w (Rect.unit (s := S1x6144x4096) ![0, 0, 1024] S1x6144x256.size inb_S1x6144x4096_S1x6144x256_0_0_1024))
      (View.ld w (Rect.unit (s := S1x6144x4096) ![0, 0, 3072] S1x6144x256.size inb_S1x6144x4096_S1x6144x256_0_0_3072)) (View.ld ws (Rect.unit (s := S1x1x4096) ![0, 0, 1024] S1x1x256.size inb_S1x1x4096_S1x1x256_0_0_1024))
      (View.ld ws (Rect.unit (s := S1x1x4096) ![0, 0, 3072] S1x1x256.size inb_S1x1x4096_S1x1x256_0_0_3072)) (View.ld Y (Rect.unit (s := S256x2048) ![0, 1024] S256x256.size inb_S256x2048_S256x256_0_1024))⟩,
    ⟨Rect.unit (s := S256x2048) ![0, 768] S256x256.size inb_S256x2048_S256x256_0_768, chunkV s mask xq (View.ld w (Rect.unit (s := S1x6144x4096) ![0, 0, 768] S1x6144x256.size inb_S1x6144x4096_S1x6144x256_0_0_768))
      (View.ld w (Rect.unit (s := S1x6144x4096) ![0, 0, 2816] S1x6144x256.size inb_S1x6144x4096_S1x6144x256_0_0_2816)) (View.ld ws (Rect.unit (s := S1x1x4096) ![0, 0, 768] S1x1x256.size inb_S1x1x4096_S1x1x256_0_0_768))
      (View.ld ws (Rect.unit (s := S1x1x4096) ![0, 0, 2816] S1x1x256.size inb_S1x1x4096_S1x1x256_0_0_2816)) (View.ld Y (Rect.unit (s := S256x2048) ![0, 768] S256x256.size inb_S256x2048_S256x256_0_768))⟩,
    ⟨Rect.unit (s := S256x2048) ![0, 512] S256x256.size inb_S256x2048_S256x256_0_512, chunkV s mask xq (View.ld w (Rect.unit (s := S1x6144x4096) ![0, 0, 512] S1x6144x256.size inb_S1x6144x4096_S1x6144x256_0_0_512))
      (View.ld w (Rect.unit (s := S1x6144x4096) ![0, 0, 2560] S1x6144x256.size inb_S1x6144x4096_S1x6144x256_0_0_2560)) (View.ld ws (Rect.unit (s := S1x1x4096) ![0, 0, 512] S1x1x256.size inb_S1x1x4096_S1x1x256_0_0_512))
      (View.ld ws (Rect.unit (s := S1x1x4096) ![0, 0, 2560] S1x1x256.size inb_S1x1x4096_S1x1x256_0_0_2560)) (View.ld Y (Rect.unit (s := S256x2048) ![0, 512] S256x256.size inb_S256x2048_S256x256_0_512))⟩,
    ⟨Rect.unit (s := S256x2048) ![0, 256] S256x256.size inb_S256x2048_S256x256_0_256, chunkV s mask xq (View.ld w (Rect.unit (s := S1x6144x4096) ![0, 0, 256] S1x6144x256.size inb_S1x6144x4096_S1x6144x256_0_0_256))
      (View.ld w (Rect.unit (s := S1x6144x4096) ![0, 0, 2304] S1x6144x256.size inb_S1x6144x4096_S1x6144x256_0_0_2304)) (View.ld ws (Rect.unit (s := S1x1x4096) ![0, 0, 256] S1x1x256.size inb_S1x1x4096_S1x1x256_0_0_256))
      (View.ld ws (Rect.unit (s := S1x1x4096) ![0, 0, 2304] S1x1x256.size inb_S1x1x4096_S1x1x256_0_0_2304)) (View.ld Y (Rect.unit (s := S256x2048) ![0, 256] S256x256.size inb_S256x2048_S256x256_0_256))⟩,
    ⟨Rect.unit (s := S256x2048) ![0, 0] S256x256.size inb_S256x2048_S256x256_0_0, chunkV s mask xq (View.ld w (Rect.unit (s := S1x6144x4096) ![0, 0, 0] S1x6144x256.size inb_S1x6144x4096_S1x6144x256_0_0_0))
      (View.ld w (Rect.unit (s := S1x6144x4096) ![0, 0, 2048] S1x6144x256.size inb_S1x6144x4096_S1x6144x256_0_0_2048)) (View.ld ws (Rect.unit (s := S1x1x4096) ![0, 0, 0] S1x1x256.size inb_S1x1x4096_S1x1x256_0_0_0))
      (View.ld ws (Rect.unit (s := S1x1x4096) ![0, 0, 2048] S1x1x256.size inb_S1x1x4096_S1x1x256_0_0_2048)) (View.ld Y (Rect.unit (s := S256x2048) ![0, 0] S256x256.size inb_S256x2048_S256x256_0_0))⟩]

/-- The output block the body leaves over the block `Y` it found. -/
def outV (s : Elt F .f32) (mask : IVec S256x256 1) (x : Vec F S256x6144 .bf16) (w : Vec F S1x6144x4096 .fp8e4m3)
    (ws : Vec F S1x1x4096 .f32) (Y : Vec F S256x2048 .bf16) : Vec F S256x2048 .bf16 :=
  View.canon (outL s mask (k0_pay2 s x) w ws Y)

theorem outL_cover (s : Elt F .f32) (mask : IVec S256x256 1) (xq : Vec F S256x6144 .fp8e4m3) (w : Vec F S1x6144x4096 .fp8e4m3)
    (ws : Vec F S1x1x4096 .f32) (Y : Vec F S256x2048 .bf16) (y : S256x2048.Idx) : ∃ p ∈ outL s mask xq w ws Y, y ∈ p.1.set :=
  View.cover_of_tiled (s := S256x2048) _ ![256, 256] rfl y

set_option maxHeartbeats 4000000 in
/-- The body at a live item. -/
theorem sound_live (c : Dev nD) (E : Set ℕ) (i : grid0.Coords) (arg1 : Memref sig .tc .smem S259 .i32) (harg1 : arg1.IsWhole) (arg2 : Memref sig .tc .smem S259 .i32) (harg2 : arg2.IsWhole) (arg3 : Memref sig .tc .smem S1 .i32) (harg3 : arg3.IsWhole) (arg4 : Memref sig .tc .smem S4 .i32) (harg4 : arg4.IsWhole) (arg5 : Memref sig .tc .smem S4 .i32) (harg5 : arg5.IsWhole) (arg6 : Memref sig .tc .smem S4 .f32) (harg6 : arg6.IsWhole) (arg7 : Memref sig .tc .vmem S256x6144 .bf16) (harg7 : arg7.IsWhole) (arg8 : Memref sig .tc .vmem S1x6144x4096 .fp8e4m3) (harg8 : arg8.IsWhole) (arg9 : Memref sig .tc .vmem S1x1x4096 .f32) (harg9 : arg9.IsWhole) (arg10 : Memref sig .tc .vmem S256x2048 .bf16) (harg10 : arg10.IsWhole) (arg11 : Memref sig .tc .vmem S256x6144 .fp8e4m3) (harg11 : arg11.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (x7 : Vec F S256x6144 .bf16) (x8 : Vec F S1x6144x4096 .fp8e4m3) (x9 : Vec F S1x1x4096 .f32) (Y : Vec F S256x2048 .bf16)
    (hc : k0_cond1 i (wd c arg3 (Rect.unit (s := S1) ![0] S1.size inb_S1_S1_0) numel1_S1 f3) = 1#1)
    (hw : k0_chk1 i (wd c arg3 (Rect.unit (s := S1) ![0] S1.size inb_S1_S1_0) numel1_S1 f3) (wd c arg1 (Rect.unit (s := S259) (k0_off2 i) S1.size (k0_off2_inb i)) numel1_S1 f1)) (K : PUnit → sProp 𝕄) :
    iprop((arg1.view.loc (c : Thread nD τ) ↦{fullShare.right} f1)∗ (arg2.view.loc (c : Thread nD τ) ↦{fullShare.right} f2)∗ (arg3.view.loc (c : Thread nD τ) ↦{fullShare.right} f3)∗ (arg4.view.loc (c : Thread nD τ) ↦{fullShare.right} f4)∗ (arg5.view.loc (c : Thread nD τ) ↦{fullShare.right} f5)∗ (arg6.view.loc (c : Thread nD τ) ↦{fullShare} f6)∗ owns (c : Thread nD τ) arg7 fullShare x7∗ owns (c : Thread nD τ) arg8 fullShare x8∗ owns (c : Thread nD τ) arg9 fullShare x9 ∗ owns (c : Thread nD τ) arg10 fullShare Y ∗ (∃ d, owns (c : Thread nD τ) arg11 fullShare d)
        ∗ (iprop((arg1.view.loc (c : Thread nD τ) ↦{fullShare.right} f1)∗ (arg2.view.loc (c : Thread nD τ) ↦{fullShare.right} f2)∗ (arg3.view.loc (c : Thread nD τ) ↦{fullShare.right} f3)∗ (arg4.view.loc (c : Thread nD τ) ↦{fullShare.right} f4)∗ (arg5.view.loc (c : Thread nD τ) ↦{fullShare.right} f5)∗ (arg6.view.loc (c : Thread nD τ) ↦{fullShare} f6)∗ owns (c : Thread nD τ) arg7 fullShare x7∗ owns (c : Thread nD τ) arg8 fullShare x8∗ owns (c : Thread nD τ) arg9 fullShare x9 ∗ owns (c : Thread nD τ) arg10 fullShare (outV (wd c arg6 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f6)
            (k0_pay3 (wd c arg2 (Rect.unit (s := S259) (k0_off4 i) S1.size (k0_off4_inb i)) numel1_S1 f2) (wd c arg4 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f4) (wd c arg5 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f5)) x7 x8 x9 Y) ∗ (∃ d, owns (c : Thread nD τ) arg11 fullShare d)) -∗ K ⟨⟩))
      ⊢ wp frame (wpE (defs₀ (F := F)) Variants.none c none) E (cc0_moe_gate_up_swiglu i arg1 harg1 arg2 harg2 arg3 harg3 arg4 harg4 arg5 harg5 arg6 harg6 arg7 harg7 arg8 harg8 arg9 harg9 arg10 harg10 arg11 harg11) K := by
  simp only [cc0_moe_gate_up_swiglu_eq_skeleton]; unfold cc0_moe_gate_up_swiglu_skel
  simp only [k0_part1_eq_skeleton, k0_part2_eq_skeleton, k0_part3_eq_skeleton, k0_part4_eq_skeleton, k0_part5_eq_skeleton, k0_part6_eq_skeleton, k0_part7_eq_skeleton]
  unfold owns
  iintro ⟨H1, H2, H3, H4, H5, H6, ⟨%f7, %hf7, H7⟩, ⟨%f8, %hf8, H8⟩, ⟨%f9, %hf9, H9⟩, ⟨%f10, %hf10, H10⟩, ⟨%d11, %f11, -, H11⟩, Hk⟩
  subst hf7 hf8 hf9 hf10
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    have hxq : sound_live.sl.v35 c i arg1 arg3 arg6 arg7 arg11 f1 f3 f6 hc hw f7 = k0_pay2 (wd c arg6 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f6) (arg7.view.read (Elt F) f7) := by
      unfold sound_live.sl.v35 sound_live.sl.H11_1
      rw [View.readCov_full]
      exact congrArg (k0_pay2 _) (View.ld_unit_zero (by funext a; revert a; decide) _ _)
    refine Eq.trans (congrArg (fun L => arg10.view.read (Elt F) (arg10.view.writes (Elt F) f10 L)) ?_) (View.read_writes_eq_canon arg10.view f10 _ (outL_cover _ _ _ _ _ _))
    unfold sound_live.sl.r_7 sound_live.sl.r_8 sound_live.sl.r_9 sound_live.sl.r_10 sound_live.sl.r_12 sound_live.sl.r_13 sound_live.sl.r_15 sound_live.sl.r_17
    simp only [hxq]
    rfl
  · iexists _, _; isplitr; swap; · iexact H11
    ipureintro; rfl

/-- The body at a dead item: nothing runs. -/
theorem sound_dead (c : Dev nD) (E : Set ℕ) (i : grid0.Coords) (arg1 : Memref sig .tc .smem S259 .i32) (harg1 : arg1.IsWhole) (arg2 : Memref sig .tc .smem S259 .i32) (harg2 : arg2.IsWhole) (arg3 : Memref sig .tc .smem S1 .i32) (harg3 : arg3.IsWhole) (arg4 : Memref sig .tc .smem S4 .i32) (harg4 : arg4.IsWhole) (arg5 : Memref sig .tc .smem S4 .i32) (harg5 : arg5.IsWhole) (arg6 : Memref sig .tc .smem S4 .f32) (harg6 : arg6.IsWhole) (arg7 : Memref sig .tc .vmem S256x6144 .bf16) (harg7 : arg7.IsWhole) (arg8 : Memref sig .tc .vmem S1x6144x4096 .fp8e4m3) (harg8 : arg8.IsWhole) (arg9 : Memref sig .tc .vmem S1x1x4096 .f32) (harg9 : arg9.IsWhole) (arg10 : Memref sig .tc .vmem S256x2048 .bf16) (harg10 : arg10.IsWhole) (arg11 : Memref sig .tc .vmem S256x6144 .fp8e4m3) (harg11 : arg11.IsWhole)
    (f3 : Buf (Elt F) (arg3.view.loc (c : Thread nD τ)))
    (hc : ¬ k0_cond1 i (wd c arg3 (Rect.unit (s := S1) ![0] S1.size inb_S1_S1_0) numel1_S1 f3) = 1#1) (K : PUnit → sProp 𝕄) :
    iprop((arg3.view.loc (c : Thread nD τ) ↦{fullShare.right} f3) ∗ ((arg3.view.loc (c : Thread nD τ) ↦{fullShare.right} f3) -∗ K ⟨⟩))
      ⊢ wp frame (wpE (defs₀ (F := F)) Variants.none c none) E (cc0_moe_gate_up_swiglu i arg1 harg1 arg2 harg2 arg3 harg3 arg4 harg4 arg5 harg5 arg6 harg6 arg7 harg7 arg8 harg8 arg9 harg9 arg10 harg10 arg11 harg11) K := by
  simp only [cc0_moe_gate_up_swiglu_eq_skeleton]; unfold cc0_moe_gate_up_swiglu_skel
  iintro ⟨H3, Hk⟩
  sl_exec
  sl_step
  iapply Hk
  iexact H3

end Cert.Kernel.Hand

end
-- ==== Proof.Kernel.Run.lean ====
/- The run of the whole program at any predicate on the output's blocks that the body keeps, over prefetched tables that
   are admissible: each output block that is written back satisfies the predicate, every other array is unchanged. -/
module

public import proofs.«01_k».proof.Proof.Kernel.Body
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.Kernel.Gen

variable {F : FTy → Type} [FloatOps F]

local notation "𝕄" => MT nD τ sig Unit (Elt F) ℕ (UR sig nD τ) ℕ

section Data

variable (a : (pcfg0 (F := F)).Adm) (Vf : (c : Dev nD) → (b : Ref sig .tc) → Buf (Elt F) ((c : Thread nD τ).loc b))

/-- Window `w`'s block at point `t`, read off its array as the grid finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (Vf c (Pipeline.arrRef spec0 w))

/-- The proof data of the grid on core `c`; the output's part of `after` is never read (the run states it by a relation). -/
def dats (c : Dev nD) : Dat τ (Elt F) Unit ℕ (UR sig nD τ) ℕ (cfg0 a) c where
  A w := Vf c (Pipeline.arrRef spec0 w)
  after w t := match w with
    | ⟨0, _⟩ => iblk a Vf c 0 t
    | ⟨1, _⟩ => iblk a Vf c 1 t
    | ⟨2, _⟩ => iblk a Vf c 2 t
    | ⟨3, _⟩ => iblk a Vf c 3 t
    | ⟨4, _⟩ => iblk a Vf c 4 t
  Φ _ := iprop(Pipeline.ΦA spec0 c ∗ Pipeline.ΦT pre0 a.1 c)
  q _ := fullShare
  owed _ := 0

theorem A_eq (c : Dev nD) (w : Fin (cfg0 a).W) : (dats a Vf c).A w = Vf c (Pipeline.arrRef spec0 w) := by
  dsimp only [dats]
theorem after0_0 (c : Dev nD) (t : Fin (cfg0 a).N) : (dats a Vf c).after 0 t = iblk a Vf c 0 t := rfl
theorem after0_1 (c : Dev nD) (t : Fin (cfg0 a).N) : (dats a Vf c).after 1 t = iblk a Vf c 1 t := rfl
theorem after0_2 (c : Dev nD) (t : Fin (cfg0 a).N) : (dats a Vf c).after 2 t = iblk a Vf c 2 t := rfl
theorem after0_3 (c : Dev nD) (t : Fin (cfg0 a).N) : (dats a Vf c).after 3 t = iblk a Vf c 3 t := rfl
/-- Input window 0's staging buffer holds its block at every point. -/
theorem before0_0 (c : Dev nD) (t : Fin (cfg0 a).N) (d) : (dats a Vf c).before 0 t d = iblk a Vf c 0 t :=
  ((dats a Vf c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's staging buffer holds its block at every point. -/
theorem before0_1 (c : Dev nD) (t : Fin (cfg0 a).N) (d) : (dats a Vf c).before 1 t d = iblk a Vf c 1 t :=
  ((dats a Vf c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's staging buffer holds its block at every point. -/
theorem before0_2 (c : Dev nD) (t : Fin (cfg0 a).N) (d) : (dats a Vf c).before 2 t d = iblk a Vf c 2 t :=
  ((dats a Vf c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's staging buffer holds its block at every point. -/
theorem before0_3 (c : Dev nD) (t : Fin (cfg0 a).N) (d) : (dats a Vf c).before 3 t d = iblk a Vf c 3 t :=
  ((dats a Vf c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## What the body reads of the tables at a point -/

/-- The work items' number. -/
abbrev wN (c : Dev nD) : Elt F .i32 := (wd c tbM0_2 (Rect.unit (s := S1) ![0] S1.size inb_S1_S1_0) numel1_S1 (a.1 2))
/-- Item `t`'s expert. -/
abbrev wE (c : Dev nD) (t : Fin (cfg0 a).N) : Elt F .i32 := (wd c tbM0_0 (Rect.unit (s := S259) (k0_off2 (grid0.coords t)) S1.size (k0_off2_inb (grid0.coords t))) numel1_S1 (a.1 0))
/-- Item `t`'s tile of rows. -/
abbrev wT (c : Dev nD) (t : Fin (cfg0 a).N) : Elt F .i32 := wd c tbM0_1 (Rect.unit (s := S259) (k0_off4 (grid0.coords t)) S1.size (k0_off4_inb (grid0.coords t))) numel1_S1 (a.1 1)
/-- Item `t` does work. -/
abbrev Live (c : Dev nD) (t : Fin (cfg0 a).N) : Prop := k0_cond1 (grid0.coords t) (wN a c) = 1#1
/-- The body's check of the expert it reads, at every point. -/
abbrev Chk : Prop := ∀ (c : Dev nD) (t : Fin (cfg0 a).N), k0_chk1 (grid0.coords t) (wN a c) (wE a c t)

variable (hk : Chk a)

/-- The first row of item `t`'s expert, the row past its last, and its scale. -/
abbrev wS (c : Dev nD) (t : Fin (cfg0 a).N) (hl : Live a c t) : Elt F .i32 :=
  wd c tbM0_3 (Rect.unit (s := S4) (k0_off3 (wE a c t)) S1.size (k0_off3_inb (grid0.coords t) (wN a c) (wE a c t) (hk c t) hl)) numel1_S1 (a.1 3)
abbrev wD (c : Dev nD) (t : Fin (cfg0 a).N) (hl : Live a c t) : Elt F .i32 :=
  wd c tbM0_4 (Rect.unit (s := S4) (k0_off3 (wE a c t)) S1.size (k0_off3_inb (grid0.coords t) (wN a c) (wE a c t) (hk c t) hl)) numel1_S1 (a.1 4)
abbrev wX (c : Dev nD) (t : Fin (cfg0 a).N) (hl : Live a c t) : Elt F .f32 :=
  View.ld (Val := Elt F) (iblk a Vf c 0 t : Vec F S4 .f32) (Rect.unit (s := S4) (k0_off3 (wE a c t)) S1.size (k0_off3_inb (grid0.coords t) (wN a c) (wE a c t) (hk c t) hl)) (Shape.Idx.first (numel1_S1.symm ▸ Nat.one_pos))

/-- The output block the body leaves at point `t` over the block `Y` it found. -/
def bodyOut (c : Dev nD) (t : Fin (cfg0 a).N) (Y : Vec F S256x2048 .bf16) : Vec F S256x2048 .bf16 :=
  if hl : Live a c t then
    outV (wX a Vf hk c t hl) (k0_pay3 (wT a c t) (wS a hk c t hl) (wD a hk c t hl)) (iblk a Vf c 1 t) (iblk a Vf c 2 t) (iblk a Vf c 3 t) Y
  else Y

/-- The body at point `t`, on what the pipeline calls it with. -/
abbrev bodyAt (t : Fin (cfg0 a).N) : Prog (TpuEff nD τ sig (Elt F) Λ₀ .tc) PUnit :=
  cc0_moe_gate_up_swiglu (grid0.coords t) tbM0_0 htbM0_0 tbM0_1 htbM0_1 tbM0_2 htbM0_2 tbM0_3 htbM0_3 tbM0_4 htbM0_4 ((cfg0 a).win 0 |>.stage ((cfg0 a).slots t 0)) (hstage0_0 (((cfg0 a).slots t 0).cast nbuf0_0)) ((cfg0 a).win 1 |>.stage ((cfg0 a).slots t 1)) (hstage0_1 (((cfg0 a).slots t 1).cast nbuf0_1)) ((cfg0 a).win 2 |>.stage ((cfg0 a).slots t 2)) (hstage0_2 (((cfg0 a).slots t 2).cast nbuf0_2)) ((cfg0 a).win 3 |>.stage ((cfg0 a).slots t 3)) (hstage0_3 (((cfg0 a).slots t 3).cast nbuf0_3)) ((cfg0 a).win 4 |>.stage ((cfg0 a).slots t 4)) (hstage0_4 (((cfg0 a).slots t 4).cast nbuf0_4)) (Memref.whole cc0_scratch0) (Memref.isWhole_whole _)

theorem defs₀_row (t : Fin (cfg0 a).N) :
    defs₀ (F := F) .tc (cfg0 a).body ((cfg0 a).bodyArgs t ((cfg0 a).slots t)) = bodyAt a t := by
  unfold defs₀; rw [Defs.onTc_tc]; rfl

abbrev stg (w : Fin (cfg0 a).W) (t : Fin (cfg0 a).N) := ((cfg0 a).win w).stage ((cfg0 a).slots t w)

/-- Ownership of the whole first staging buffer is a points-to of contents read as `X`. -/
theorem owns0_eq (c : Dev nD) (t : Fin (cfg0 a).N) :
    (owns (c : Thread nD τ) (stg a 0 t) fullShare (iblk a Vf c 0 t) : sProp 𝕄)
      = iprop(∃ f, ⌜(stg a 0 t).view.read (Elt F) f = iblk a Vf c 0 t⌝ ∗ ((stg a 0 t).view.loc (c : Thread nD τ)) ↦{fullShare} f) := by
  have e : (stg a 0 t).view.set = Finset.univ := (hstage0_0 (((cfg0 a).slots t 0).cast nbuf0_0)).set_eq_univ
  unfold owns
  simp only [e]

/-- The body at any point: the inputs' blocks and the tables are read, the output's block goes from `Y` to `bodyOut`. -/
theorem sound_point (c : Dev nD) (t : Fin (cfg0 a).N) (Y : Vec F S256x2048 .bf16) (K : PUnit → sProp 𝕄) :
    iprop((Pipeline.ΦA spec0 c ∗ Pipeline.ΦT pre0 a.1 c) ∗ owns (c : Thread nD τ) (stg a 0 t) fullShare (iblk a Vf c 0 t) ∗ owns (c : Thread nD τ) (stg a 1 t) fullShare (iblk a Vf c 1 t)
        ∗ owns (c : Thread nD τ) (stg a 2 t) fullShare (iblk a Vf c 2 t) ∗ owns (c : Thread nD τ) (stg a 3 t) fullShare (iblk a Vf c 3 t) ∗ owns (c : Thread nD τ) (stg a 4 t) fullShare Y
        ∗ (iprop((Pipeline.ΦA spec0 c ∗ Pipeline.ΦT pre0 a.1 c) ∗ owns (c : Thread nD τ) (stg a 0 t) fullShare (iblk a Vf c 0 t) ∗ owns (c : Thread nD τ) (stg a 1 t) fullShare (iblk a Vf c 1 t)
        ∗ owns (c : Thread nD τ) (stg a 2 t) fullShare (iblk a Vf c 2 t) ∗ owns (c : Thread nD τ) (stg a 3 t) fullShare (iblk a Vf c 3 t) ∗ owns (c : Thread nD τ) (stg a 4 t) fullShare (bodyOut a Vf hk c t Y)) -∗ K ⟨⟩))
      ⊢ wp frame (wpE (defs₀ (F := F)) Variants.none c none) Set.univ (bodyAt a t) K := by
  unfold Pipeline.ΦA
  rw [owns0_eq, PhiT0_eq, scopedRest0_eq]
  by_cases hl : Live a c t
  · rw [show bodyOut a Vf hk c t Y = _ from dif_pos hl]
    iintro ⟨⟨⟨⟨%fs, Hs⟩, Hp⟩, T0, T1, T2, T3, T4⟩, H0, H1, H2, H3, H4, Hk⟩
    icases H0 with ⟨%f6, %hf6, H0⟩
    have hX : wX a Vf hk c t hl = wd c (stg a 0 t) (Rect.unit (s := S4) (k0_off3 (wE a c t)) S1.size (k0_off3_inb (grid0.coords t) (wN a c) (wE a c t) (hk c t) hl)) numel1_S1 f6 := by
      unfold wX; rw [← hf6]; rfl
    iapply (sound_live c Set.univ (grid0.coords t) tbM0_0 htbM0_0 tbM0_1 htbM0_1 tbM0_2 htbM0_2 tbM0_3 htbM0_3 tbM0_4 htbM0_4 _ _ _ _ _ _ _ _ _ _ _ _ (a.1 0) (a.1 1) (a.1 2) (a.1 3) (a.1 4) f6 (iblk a Vf c 1 t) (iblk a Vf c 2 t) (iblk a Vf c 3 t) Y hl (hk c t) K)
    isplitl [T0]; · iexact T0
    isplitl [T1]; · iexact T1
    isplitl [T2]; · iexact T2
    isplitl [T3]; · iexact T3
    isplitl [T4]; · iexact T4
    isplitl [H0]; · iexact H0
    isplitl [H1]; · iexact H1
    isplitl [H2]; · iexact H2
    isplitl [H3]; · iexact H3
    isplitl [H4]; · iexact H4
    isplitl [Hs]
    · iexists fs; rw [owns_whole]; iexact Hs
    iintro ⟨T0, T1, T2, T3, T4, H0, H1, H2, H3, H4, ⟨%d11, Hs⟩⟩
    iapply Hk
    isplitl [Hs Hp T0 T1 T2 T3 T4]
    · isplitl [Hs Hp]
      · isplitl [Hs]
        · iexists d11; rw [← owns_whole (c : Thread nD τ) cc0_scratch0 fullShare d11]; iexact Hs
        iexact Hp
      isplitl [T0]; · iexact T0
      isplitl [T1]; · iexact T1
      isplitl [T2]; · iexact T2
      isplitl [T3]; · iexact T3
      iexact T4
    isplitl [H0]
    · iexists f6; isplitr
      · ipureintro; exact hf6
      iexact H0
    isplitl [H1]; · iexact H1
    isplitl [H2]; · iexact H2
    isplitl [H3]; · iexact H3
    rw [hX]
    iexact H4
  · rw [show bodyOut a Vf hk c t Y = _ from dif_neg hl]
    iintro ⟨⟨⟨⟨%fs, Hs⟩, Hp⟩, T0, T1, T2, T3, T4⟩, H0, H1, H2, H3, H4, Hk⟩
    iapply (sound_dead c Set.univ (grid0.coords t) tbM0_0 htbM0_0 tbM0_1 htbM0_1 tbM0_2 htbM0_2 tbM0_3 htbM0_3 tbM0_4 htbM0_4 _ _ _ _ _ _ _ _ _ _ _ _ (a.1 2) hl K)
    isplitl [T2]; · iexact T2
    iintro T2
    iapply Hk
    isplitl [Hs Hp T0 T1 T2 T3 T4]
    · isplitl [Hs Hp]
      · isplitl [Hs]
        · iexists _; iexact Hs
        iexact Hp
      isplitl [T0]; · iexact T0
      isplitl [T1]; · iexact T1
      isplitl [T2]; · iexact T2
      isplitl [T3]; · iexact T3
      iexact T4
    isplitl [H0]; · iexact H0
    isplitl [H1]; · iexact H1
    isplitl [H2]; · iexact H2
    isplitl [H3]; · iexact H3
    iexact H4

/-! ## The relational data: the output's block satisfies `P` after every point -/

/-- Only the output's window is held to a relation. -/
abbrev fgt : Fin (cfg0 a).W → Bool := fun | 4 => true | _ => false

/-- The relation: `P` at the output's window. -/
abbrev Rl (P : Fin (cfg0 a).N → Vec F S256x2048 .bf16 → Prop) :
    (w : Fin (cfg0 a).W) → Fin (cfg0 a).N → (((cfg0 a).win w).block.Idx → Elt F ((cfg0 a).win w).elt) → Prop :=
  fun | 4 => fun t X => P t X | 0 => fun _ _ => True | 1 => fun _ _ => True | 2 => fun _ _ => True | 3 => fun _ _ => True

variable (P : Fin (cfg0 a).N → Vec F S256x2048 .bf16 → Prop)

/-- The body keeps `P`: at a point that may find anything in the output's buffer, and at one that finds what the point
    before left. -/
structure Keeps : Prop where
  fresh : ∀ (c : Dev nD) (t : Fin (cfg0 a).N), (t.val = 0 ∨ ((cfg0 a).win 4).flush ⟨t.val - 1, Nat.lt_of_le_of_lt (Nat.sub_le _ _) t.isLt⟩ = true) → ∀ Y, P t (bodyOut a Vf hk c t Y)
  next : ∀ (c : Dev nD) (t : Fin (cfg0 a).N), t.val ≠ 0 → ∀ Y, P ⟨t.val - 1, Nat.lt_of_le_of_lt (Nat.sub_le _ _) t.isLt⟩ Y → P t (bodyOut a Vf hk c t Y)

variable {P} in
theorem Keeps.step (h : Keeps a Vf hk P) (c : Dev nD) (t : Fin (cfg0 a).N) (Y : Vec F S256x2048 .bf16)
    (hf : ((dats a Vf c).toRRel (fgt a) (Rl a P)).Finds 4 t Y) : P t (bodyOut a Vf hk c t Y) := by
  by_cases h0 : t.val = 0
  · exact h.fresh c t (.inl h0) Y
  · rcases (RDat.finds_of_pos _ (w := (4 : Fin (cfg0 a).W)) rfl h0 Y).mp hf with hfl | hle
    · exact h.fresh c t (.inr hfl) Y
    · exact h.next c t h0 Y ((dats a Vf c).toRRel_leaves (fgt := fgt a) (Rl := Rl a P) (w := 4) rfl hle)

/-- The body's step at a point, window by window. -/
theorem body_step (h : Keeps a Vf hk P) (c : Dev nD) (t : Fin (cfg0 a).N) (O : sProp 𝕄) :
    iprop((Pipeline.ΦA spec0 c ∗ Pipeline.ΦT pre0 a.1 c) ∗ O
        ∗ (∃ d, owns (c : Thread nD τ) (stg a 0 t) fullShare ((dats a Vf c).before 0 t d)) ∗ (∃ d, owns (c : Thread nD τ) (stg a 1 t) fullShare ((dats a Vf c).before 1 t d))
        ∗ (∃ d, owns (c : Thread nD τ) (stg a 2 t) fullShare ((dats a Vf c).before 2 t d)) ∗ (∃ d, owns (c : Thread nD τ) (stg a 3 t) fullShare ((dats a Vf c).before 3 t d))
        ∗ (∃ Y, ⌜((dats a Vf c).toRRel (fgt a) (Rl a P)).Finds 4 t Y⌝ ∗ owns (c : Thread nD τ) (stg a 4 t) fullShare Y))
      ⊢ wp frame (wpE (defs₀ (F := F)) Variants.none c none) Set.univ (bodyAt a t)
          (fun _ => iprop((Pipeline.ΦA spec0 c ∗ Pipeline.ΦT pre0 a.1 c) ∗ O
        ∗ owns (c : Thread nD τ) (stg a 0 t) fullShare ((dats a Vf c).after 0 t) ∗ owns (c : Thread nD τ) (stg a 1 t) fullShare ((dats a Vf c).after 1 t)
        ∗ owns (c : Thread nD τ) (stg a 2 t) fullShare ((dats a Vf c).after 2 t) ∗ owns (c : Thread nD τ) (stg a 3 t) fullShare ((dats a Vf c).after 3 t)
        ∗ (∃ X, ⌜P t X⌝ ∗ owns (c : Thread nD τ) (stg a 4 t) fullShare X))) := by
  simp only [before0_0, before0_1, before0_2, before0_3, after0_0, after0_1, after0_2, after0_3]
  iintro ⟨HΦ, Ho, ⟨%d0, H0⟩, ⟨%d1, H1⟩, ⟨%d2, H2⟩, ⟨%d3, H3⟩, ⟨%Y, %hY, H4⟩⟩
  iapply (sound_point a Vf hk c t Y _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact H4
  ipureintro
  exact h.step a Vf hk c t Y hY

theorem body_obligation (h : Keeps a Vf hk P) (c : Dev nD) :
    BodyObligationRel (dats a Vf c) (defs₀ (F := F)) Variants.none () Set.univ (fgt a) (Rl a P) := fun t => by
  rw [bigSep_W0, bigSep_W0, defs₀_row]
  exact body_step a Vf hk P h c t _

end Data

/-! ## The run -/

variable (m : (ℓ : Loc nD τ sig) → Buf (Elt F) ℓ) (ρ : Dev nD → PrngReg)

/-- The tables as the host operations leave them, admissible. -/
abbrev adm (hO : ok0 (F := F) (tbl m)) : (pcfg0 (F := F)).Adm := ⟨tbl m, hO⟩

abbrev rdat (hO : ok0 (F := F) (tbl m)) (P : Fin (cfg0 (adm m hO)).N → Vec F S256x2048 .bf16 → Prop) (c : Dev nD) :=
  (dats (adm m hO) (V m) c).toRRel (fgt (adm m hO)) (Rl (adm m hO) P)

set_option backward.isDefEq.respectTransparency.types false in
set_option maxHeartbeats 800000 in
theorem run_main (hO : ok0 (F := F) (tbl m)) (hk : Chk (adm m hO)) (P : Fin (cfg0 (adm m hO)).N → Vec F S256x2048 .bf16 → Prop)
    (hP : Keeps (adm m hO) (V m) hk P) :
    θ_run defs (onTc (τ := τ) (main (F := F))) (s₀ m ρ) (fun r => RDat.FramePost (cfg0 (adm m hO)) (rdat m hO P) (V m) r ∧ r.2.sem = fun _ => 0) :=
  Pipeline.RDat.θ_run_frameP (Q' := _) pcfgs (fun _ => adm m hO) (0 : Fin 1) launch0 defs₀ Variants.none (rdat m hO P) m ρ main
    (hbody := fun c => (body_obligation (adm m hO) (V m) hk P hP c).toRRel) (hshare := fun c => (dats (adm m hO) (V m) c).share_full fun _ => rfl)
    (howed := fun _ _ => rfl) (V := V m) (hmain := hmain m Variants.none) (hA := fun c w => A_eq (adm m hO) (V m) c w) (hpf := V_pre m) (hΦ := fun _ _ => rfl)

end Cert.Kernel.Hand

end
-- ==== Proof.Sched.lean ====
/- The work items of the grid, over natural numbers: which expert and which tile of 256 rows each grid point treats, as
   the host computes them from the four group sizes. -/
module

public import Idealize.ShloMosaic.Lib.Routing.Words

@[expose] public section

namespace Cert.Sched

variable (a b c d : ℕ)

/-- The size of group `e`. -/
def sz (e : ℕ) : ℕ := if e = 0 then a else if e = 1 then b else if e = 2 then c else d
/-- The row past the last of group `e`. -/
def en (e : ℕ) : ℕ := if e = 0 then a else if e = 1 then a + b else if e = 2 then a + b + c else a + b + c + d
/-- The first row of group `e`. -/
def st (e : ℕ) : ℕ := if e = 0 then 0 else if e = 1 then a else if e = 2 then a + b else a + b + c
/-- How many tiles group `e` meets. -/
def cnt (e : ℕ) : ℕ := if 0 < sz a b c d e then (en a b c d e - 1) / 256 - st a b c e / 256 + 1 else 0
/-- The work items of the groups before `e`. -/
def pre (e : ℕ) : ℕ :=
  if e = 0 then 0 else if e = 1 then cnt a b c d 0 else if e = 2 then cnt a b c d 0 + cnt a b c d 1
  else cnt a b c d 0 + cnt a b c d 1 + cnt a b c d 2
/-- The work items of the groups up to and including `e`. -/
def cum (e : ℕ) : ℕ := pre a b c d e + cnt a b c d e
/-- The number of work items. -/
def num : ℕ := cum a b c d 3
/-- The work item of grid point `t`; the points past the last item repeat it. -/
def lv (t : ℕ) : ℕ := min t (num a b c d - 1)
/-- The expert of grid point `t`. -/
def ex (t : ℕ) : ℕ :=
  (if cum a b c d 0 ≤ lv a b c d t then 1 else 0) + (if cum a b c d 1 ≤ lv a b c d t then 1 else 0)
    + (if cum a b c d 2 ≤ lv a b c d t then 1 else 0) + (if cum a b c d 3 ≤ lv a b c d t then 1 else 0)
/-- The tile of grid point `t`. -/
def tl (t : ℕ) : ℕ := st a b c (ex a b c d t) / 256 + lv a b c d t - pre a b c d (ex a b c d t)

theorem st_add_sz (e : ℕ) : st a b c e + sz a b c d e = en a b c d e := by
  unfold st sz en; split_ifs <;> omega

theorem en_le (h : a + b + c + d = 65536) (e : ℕ) : en a b c d e ≤ 65536 := by
  unfold en; split_ifs <;> omega

/-- A group that meets a tile has rows; its first tile and the number of its tiles give its last. -/
theorem cnt_pos (e : ℕ) (h : 0 < cnt a b c d e) : 0 < sz a b c d e ∧ st a b c e / 256 + cnt a b c d e = (en a b c d e - 1) / 256 + 1 := by
  have h1 := st_add_sz a b c d e
  unfold cnt at h ⊢
  split_ifs at h ⊢ with h2
  · refine ⟨h2, ?_⟩; omega
  · omega

theorem cnt_le (h : a + b + c + d = 65536) (e : ℕ) : cnt a b c d e ≤ 256 := by
  have h1 := en_le a b c d h e
  unfold cnt; split_ifs <;> omega

theorem cnt_pos_of (e : ℕ) (h : 0 < sz a b c d e) : 0 < cnt a b c d e := by
  unfold cnt; rw [if_pos h]; omega

theorem num_pos (h : a + b + c + d = 65536) : 0 < num a b c d := by
  have h0 := cnt_pos_of a b c d 0
  have h1 := cnt_pos_of a b c d 1
  have h2 := cnt_pos_of a b c d 2
  have h3 := cnt_pos_of a b c d 3
  simp only [sz, reduceIte, Nat.reduceEqDiff, OfNat.ofNat_ne_zero, one_ne_zero] at h0 h1 h2 h3
  unfold num cum pre
  simp only [reduceIte, Nat.reduceEqDiff, OfNat.ofNat_ne_zero]
  omega

theorem num_le (h : a + b + c + d = 65536) : num a b c d ≤ 1024 := by
  have h0 := cnt_le a b c d h 0
  have h1 := cnt_le a b c d h 1
  have h2 := cnt_le a b c d h 2
  have h3 := cnt_le a b c d h 3
  unfold num cum pre
  simp only [reduceIte, Nat.reduceEqDiff, OfNat.ofNat_ne_zero]
  omega

theorem cum_le_num (e : ℕ) (he : e < 4) : cum a b c d e ≤ num a b c d := by
  unfold num cum pre
  interval_cases e <;> simp <;> omega

theorem lv_lt (h : a + b + c + d = 65536) (t : ℕ) : lv a b c d t < num a b c d := by
  have := num_pos a b c d h
  unfold lv; omega

/-- A grid point's expert, and the place of its work item among that expert's. -/
theorem ex_spec (h : a + b + c + d = 65536) (t : ℕ) :
    ex a b c d t < 4 ∧ pre a b c d (ex a b c d t) ≤ lv a b c d t ∧ lv a b c d t < cum a b c d (ex a b c d t) := by
  have hl := lv_lt a b c d h t
  unfold ex
  unfold num at hl
  generalize lv a b c d t = l at hl ⊢
  unfold cum pre at hl ⊢
  simp only [reduceIte, Nat.reduceEqDiff, OfNat.ofNat_ne_zero, one_ne_zero, Nat.zero_add] at hl ⊢
  by_cases h0 : cnt a b c d 0 ≤ l <;> by_cases h1 : cnt a b c d 0 + cnt a b c d 1 ≤ l <;>
    by_cases h2 : cnt a b c d 0 + cnt a b c d 1 + cnt a b c d 2 ≤ l <;>
    by_cases h3 : cnt a b c d 0 + cnt a b c d 1 + cnt a b c d 2 + cnt a b c d 3 ≤ l <;> first | (exfalso; omega) | skip
  all_goals simp [h0, h1, h2, h3]
  all_goals omega

/-- A grid point's expert has rows, and its tile lies among those the group meets. -/
theorem tl_spec (h : a + b + c + d = 65536) (t : ℕ) :
    0 < sz a b c d (ex a b c d t) ∧ tl a b c d t + pre a b c d (ex a b c d t) = st a b c (ex a b c d t) / 256 + lv a b c d t
      ∧ st a b c (ex a b c d t) / 256 ≤ tl a b c d t ∧ tl a b c d t ≤ (en a b c d (ex a b c d t) - 1) / 256 ∧ tl a b c d t < 256 := by
  obtain ⟨h4, h1, h2⟩ := ex_spec a b c d h t
  unfold tl
  generalize ex a b c d t = e at *
  unfold cum at h2
  obtain ⟨h5, h6⟩ := cnt_pos a b c d e (by omega)
  have h7 := en_le a b c d h e
  refine ⟨h5, ?_, ?_, ?_, ?_⟩ <;> omega

end Cert.Sched
-- ==== Proof.Kernel.Tables.lean ====
/- The prefetched tables, at four group sizes that sum to the number of tokens: the words the host operations leave are
   those of `Proof.Sched`'s numbers. -/
module

public import proofs.«01_k».proof.Proof.Kernel.Entry
public import proofs.«01_k».proof.Proof.Sched
public import Idealize.ShloMosaic.Lib.StableHlo.ReadAt
public import Idealize.ShloMosaic.Lib.Tactic.WordOmega
public import Idealize.ShloMosaic.Lib.Routing.OpsOne
public import Idealize.ShloMosaic.Lib.Routing.OpsSet

@[expose] public section

set_option maxRecDepth 16384

noncomputable section

namespace Cert.Kernel.Hand

open Idealize.ShloMosaic Idealize.ShloMosaic.TcCoe Idealize.ShloMosaic.StableHlo
open Cert.Kernel.Gen Cert.Sched
open Idealize.ShloMosaic.Routing hiding cum
open Idealize.ShloMosaic.WordCmp (cmpi_sgt_ofNat cmpi_sge_ofNat_eq_one_iff)

variable {F : FTy → Type} [FloatOps F]
variable (m : (ℓ : Loc nD τ sig) → Buf (Elt F) ℓ) (c : Dev nD)

theorem i1 {n : ℕ} (x : Fin n) : Idealize.ShloMosaic.ix1 x = ValueIdx.ix1 x := by
  funext y; fin_cases y; rfl
theorem i2 {n k : ℕ} (x : Fin n) (y : Fin k) : Idealize.ShloMosaic.ix2 x y = ValueIdx.ix2 x y := by
  funext z; fin_cases z <;> rfl

/-! ## What each operation leaves, of the buffers it reads -/

theorem v0_eq : (V m c main_v0 : IVec S4 32) = Host.reduceWindow IntOp.addi ![4] ![1] ![3] ![0] (V m c main_arg1 : IVec S4 32) (broadcastInDim S_ ![] bcast_S_S_ (constantI S_ 32 0#32)) reduceWindows_S4_S4_w4s1p3_0 h_S_ := by
  unfold V; after_reads_simp
  all_goals simp only [StableHlo.TRef.toBuf, StableHlo.TRef.ofBuf, cast_cast, cast_eq]
  all_goals rfl
theorem v1_eq : (V m c main_v1 : IVec S4 32) = subi (V m c main_v0) (V m c main_arg1) := by
  unfold V; after_reads_simp

/-- Floor division of a word by 256. -/
def fdivW (x : BitVec 32) : BitVec 32 :=
  Scalar.select (IntOp.andi (IntOp.cmpi .ne (if x = 0 then 0 else if x.msb = true then -1 else 1 : BitVec 32) (if (256#32 : BitVec 32) = 0 then 0 else if (256#32 : BitVec 32).msb = true then -1 else 1)) (IntOp.cmpi .ne (IntOp.remsi .host x 256#32) 0#32))
    (IntOp.subi (IntOp.divsi .host x 256#32) 1#32) (IntOp.divsi .host x 256#32)

theorem fdivW_ofNat (n : ℕ) (h : n < 2 ^ 31) : fdivW (BitVec.ofNat 32 n) = BitVec.ofNat 32 (n / 256) := by
  have hd : IntOp.divsi .host (BitVec.ofNat 32 n) 256#32 = BitVec.ofNat 32 (n / 256) := divsi_word .host h (by omega) (by omega)
  have hr : IntOp.remsi .host (BitVec.ofNat 32 n) 256#32 = BitVec.ofNat 32 (n % 256) := remsi_word .host h (by omega) (by omega)
  unfold fdivW
  rw [hd, hr]
  by_cases h0 : n = 0
  · subst h0; rfl
  · have hx : ¬ BitVec.ofNat 32 n = 0 := fun e => h0 (by
      have := congrArg BitVec.toNat e
      rw [BitVec.toNat_ofNat, Nat.mod_eq_of_lt (by omega)] at this
      exact this)
    have hm : ¬ (BitVec.ofNat 32 n).msb = true := by
      rw [BitVec.msb_eq_decide, BitVec.toNat_ofNat, Nat.mod_eq_of_lt (by omega)]
      simp only [decide_eq_true_eq]; omega
    rw [if_neg hx, if_neg hm]
    have e0 : IntOp.cmpi .ne (1 : BitVec 32) (if (256#32 : BitVec 32) = 0 then 0 else if (256#32 : BitVec 32).msb = true then -1 else 1) = 0#1 := by decide
    rw [e0, show ∀ y : BitVec 1, IntOp.andi 0#1 y = 0#1 from by decide]
    rfl

/-- Floor division of a vector's words by 256, as the host computes it. -/
def fdivV (x : IVec S4 32) : IVec S4 32 :=
  select (andi (cmpi .ne (signi x) (broadcastInDim S4 ![] bcast_S_S4 (signi (id (constantI S_ 32 256#32)))))
      (cmpi .ne (Host.remsi x (broadcastInDim S4 ![] bcast_S_S4 (id (constantI S_ 32 256#32)))) (broadcastInDim S4 ![] bcast_S_S4 (constantI S_ 32 0#32))))
    (subi (Host.divsi x (broadcastInDim S4 ![] bcast_S_S4 (id (constantI S_ 32 256#32)))) (broadcastInDim S4 ![] bcast_S_S4 (constantI S_ 32 1#32)))
    (Host.divsi x (broadcastInDim S4 ![] bcast_S_S4 (id (constantI S_ 32 256#32))))

theorem fdivV_at (x : IVec S4 32) (j : Fin 4) : fdivV x (ValueIdx.ix1 j) = fdivW (x (ValueIdx.ix1 j)) := rfl

theorem v2_eq : (V m c main_v2 : IVec S4 32) = fdivV (V m c main_v1) := by
  unfold fdivV
  unfold V; after_reads_simp
  all_goals simp only [StableHlo.TRef.toBuf, StableHlo.TRef.ofBuf, cast_cast, cast_eq]
  all_goals rfl
theorem v7_eq : (V m c main_v7 : IVec S4 32) = fdivV (subi (V m c main_v0) (broadcastInDim S4 ![] bcast_S_S4 (constantI S_ 32 1#32))) := by
  unfold fdivV
  unfold V; after_reads_simp
  all_goals simp only [StableHlo.TRef.toBuf, StableHlo.TRef.ofBuf, cast_cast, cast_eq]
  all_goals rfl
theorem v11_eq : (V m c main_v11 : IVec S4 32)
    = select (cmpi .sgt (V m c main_arg1 : IVec S4 32) (broadcastInDim S4 ![] bcast_S_S4 (constantI S_ 32 0#32)))
        (addi (subi (V m c main_v7) (V m c main_v2)) (broadcastInDim S4 ![] bcast_S_S4 (constantI S_ 32 1#32)) : IVec S4 32)
        (broadcastInDim S4 ![] bcast_S_S4 (id (constantI S_ 32 0#32))) := by
  unfold V; after_reads_simp
  all_goals simp only [StableHlo.TRef.toBuf, StableHlo.TRef.ofBuf, cast_cast, cast_eq]
  all_goals rfl
theorem v12_eq : (V m c main_v12 : IVec S4 32) = Host.reduceWindow IntOp.addi ![4] ![1] ![3] ![0] (V m c main_v11 : IVec S4 32) (broadcastInDim S_ ![] bcast_S_S_ (constantI S_ 32 0#32)) reduceWindows_S4_S4_w4s1p3_0 h_S_ := by
  unfold V; after_reads_simp
  all_goals simp only [StableHlo.TRef.toBuf, StableHlo.TRef.ofBuf, cast_cast, cast_eq]
  all_goals rfl
theorem v18_at (t : Fin 259) : V m c main_v18 (ValueIdx.ix1 t) = IntOp.minsi (BitVec.ofNat 32 t.val) (IntOp.subi (V m c main_v12 (ValueIdx.ix1 (3 : Fin 4))) 1#32) := by
  simp only [← i1, ← i2]
  unfold V; after_reads_at
  all_goals rfl
theorem v23_at (t : Fin 259) (e : Fin 4) : V m c main_v23 (ValueIdx.ix2 t e) = IntOp.cmpi .sge (V m c main_v18 (ValueIdx.ix1 t)) (V m c main_v12 (ValueIdx.ix1 e)) := by
  simp only [← i1, ← i2]
  unfold V; after_reads_at
  all_goals rfl
theorem v25_eq : (V m c main_v25 : IVec S259 32) = Host.reduce IntOp.addi (extui 32 (V m c main_v23 : IVec S259x4 1) natLt_1_32) (constantI S_ 32 0#32) reducesTo_S259x4_S259_d1 h_S_ := by
  unfold V; after_reads_simp
theorem v31_at (t : Fin 259) : V m c main_v31 (ValueIdx.ix2 t (0 : Fin 1))
    = Scalar.select (IntOp.cmpi .slt (V m c main_v25 (ValueIdx.ix1 t)) 0#32) (IntOp.addi (V m c main_v25 (ValueIdx.ix1 t)) 4#32) (V m c main_v25 (ValueIdx.ix1 t)) := by
  simp only [← i1, ← i2]
  unfold V; after_reads_at
  all_goals rfl
theorem v40_eq : (V m c main_v40 : IVec S259x1 32) = V m c main_v31 := by
  unfold V; after_reads_simp
theorem v42_eq : (V m c main_v42 : IVec S259 32)
    = subi (addi (Host.gather gather_S4_S259x1_S259_n_0_n_n_0_1_1 (V m c main_v2 : IVec S4 32) (V m c main_v31 : IVec S259x1 32)) (V m c main_v18))
        (Host.gather gather_S4_S259x1_S259_n_0_n_n_0_1_1 (subi (V m c main_v12) (V m c main_v11) : IVec S4 32) (V m c main_v31 : IVec S259x1 32)) := by
  unfold V; after_reads_simp
theorem v43_eq : V m c main_v43 (ValueIdx.ix1 (0 : Fin 1)) = V m c main_v12 (ValueIdx.ix1 (3 : Fin 4)) := by
  simp only [← i1, ← i2]
  unfold V; after_reads_at
  all_goals rfl

/-! ## Their words, at group sizes `a`, `b`, `k`, `d` -/

section Words

variable (a b k d : ℕ) (hs : a + b + k + d = 65536) (hg : ∀ e : Fin 4, V m c main_arg1 (ValueIdx.ix1 e) = BitVec.ofNat 32 (sz a b k d e.val))
include hs hg

theorem v0_at (e : Fin 4) : V m c main_v0 (ValueIdx.ix1 e) = BitVec.ofNat 32 (en a b k d e.val) := by
  rw [v0_eq]
  refine (cumsum1 (N := 4) (Nm1 := 3) rfl _ (sz a b k d) hg _ rfl _ _ e).trans (congrArg _ ?_)
  fin_cases e <;> simp [List.range_succ, en, sz] <;> omega

theorem v1_at (e : Fin 4) : V m c main_v1 (ValueIdx.ix1 e) = BitVec.ofNat 32 (st a b k e.val) := by
  rw [v1_eq]
  show IntOp.subi (V m c main_v0 (ValueIdx.ix1 e)) (V m c main_arg1 (ValueIdx.ix1 e)) = _
  rw [v0_at m c a b k d hs hg, hg]
  have h := st_add_sz a b k d e.val
  have h' := en_le a b k d hs e.val
  show BitVec.ofNat 32 _ - BitVec.ofNat 32 _ = _
  apply BitVec.eq_of_toNat_eq
  simp only [BitVec.toNat_sub, BitVec.toNat_ofNat]
  omega

theorem v2_at (e : Fin 4) : V m c main_v2 (ValueIdx.ix1 e) = BitVec.ofNat 32 (st a b k e.val / 256) := by
  have h := st_add_sz a b k d e.val
  have h' := en_le a b k d hs e.val
  rw [v2_eq, fdivV_at, v1_at m c a b k d hs hg, fdivW_ofNat _ (by omega)]

theorem v7_at (e : Fin 4) (h0 : 0 < sz a b k d e.val) : V m c main_v7 (ValueIdx.ix1 e) = BitVec.ofNat 32 ((en a b k d e.val - 1) / 256) := by
  have h := st_add_sz a b k d e.val
  have h' := en_le a b k d hs e.val
  rw [v7_eq, fdivV_at]
  show fdivW (IntOp.subi (V m c main_v0 (ValueIdx.ix1 e)) 1#32) = _
  rw [v0_at m c a b k d hs hg]
  have e1 : IntOp.subi (BitVec.ofNat 32 (en a b k d e.val)) 1#32 = BitVec.ofNat 32 (en a b k d e.val - 1) := by
    show BitVec.ofNat 32 _ - BitVec.ofNat 32 1 = _
    apply BitVec.eq_of_toNat_eq
    simp only [BitVec.toNat_sub, BitVec.toNat_ofNat]
    omega
  rw [e1, fdivW_ofNat _ (by omega)]

theorem v11_at (e : Fin 4) : V m c main_v11 (ValueIdx.ix1 e) = BitVec.ofNat 32 (cnt a b k d e.val) := by
  have h := st_add_sz a b k d e.val
  have h' := en_le a b k d hs e.val
  rw [v11_eq]
  show Scalar.select (IntOp.cmpi .sgt (V m c main_arg1 (ValueIdx.ix1 e)) 0#32) (IntOp.addi (IntOp.subi (V m c main_v7 (ValueIdx.ix1 e)) (V m c main_v2 (ValueIdx.ix1 e))) 1#32) 0#32 = _
  rw [hg, show (0#32 : BitVec 32) = BitVec.ofNat 32 0 from rfl, cmpi_sgt_ofNat (by omega) (by omega)]
  by_cases h0 : 0 < sz a b k d e.val
  · rw [v7_at m c a b k d hs hg e h0, v2_at m c a b k d hs hg]
    rw [decide_eq_true h0]
    unfold cnt
    rw [if_pos h0]
    show BitVec.ofNat 32 _ - BitVec.ofNat 32 _ + BitVec.ofNat 32 1 = _
    apply BitVec.eq_of_toNat_eq
    simp only [BitVec.toNat_sub, BitVec.toNat_add, BitVec.toNat_ofNat]
    omega
  · rw [decide_eq_false h0]
    unfold cnt
    rw [if_neg h0]
    rfl

theorem v12_at (e : Fin 4) : V m c main_v12 (ValueIdx.ix1 e) = BitVec.ofNat 32 (cum a b k d e.val) := by
  rw [v12_eq]
  refine (cumsum1 (N := 4) (Nm1 := 3) rfl _ (cnt a b k d) (v11_at m c a b k d hs hg) _ rfl _ _ e).trans (congrArg _ ?_)
  fin_cases e <;> simp [List.range_succ, cum, Sched.pre] <;> omega

/-- The number of work items. -/
theorem v43_at : V m c main_v43 (ValueIdx.ix1 (0 : Fin 1)) = BitVec.ofNat 32 (num a b k d) := by
  rw [v43_eq]
  exact v12_at m c a b k d hs hg 3

theorem w18_at (t : Fin 259) : V m c main_v18 (ValueIdx.ix1 t) = BitVec.ofNat 32 (lv a b k d t.val) := by
  have h := num_pos a b k d hs
  have h' := num_le a b k d hs
  have ht := t.isLt
  rw [v18_at, v12_at m c a b k d hs hg]
  have e1 : IntOp.subi (BitVec.ofNat 32 (cum a b k d (3 : Fin 4).val)) 1#32 = BitVec.ofNat 32 (num a b k d - 1) := by
    show BitVec.ofNat 32 (num a b k d) - BitVec.ofNat 32 1 = _
    apply BitVec.eq_of_toNat_eq
    simp only [BitVec.toNat_sub, BitVec.toNat_ofNat]
    omega
  rw [e1]
  unfold IntOp.minsi lv
  have e2 : ∀ n : ℕ, n < 2000 → (BitVec.ofNat 32 n).toInt = n := fun n hn => by
    rw [BitVec.toInt_eq_toNat_cond, BitVec.toNat_ofNat]; split_ifs <;> omega
  simp only [BitVec.slt, BitVec.sle, e2 _ (show t.val < 2000 by omega), e2 _ (show num a b k d - 1 < 2000 by omega), decide_eq_true_eq]
  split_ifs <;> congr 1 <;> omega

/-- Grid point `t`'s expert. -/
theorem v25_at (t : Fin 259) : V m c main_v25 (ValueIdx.ix1 t) = BitVec.ofNat 32 (ex a b k d t.val) := by
  have h' := num_le a b k d hs
  have hl := lv_lt a b k d hs t.val
  rw [v25_eq]
  refine (reduce_count (n := 259) (m := 4) (by omega) _ _ _ _ t (fun e => cum a b k d e ≤ lv a b k d t.val) fun e => ?_).trans (congrArg _ ?_)
  · have hc := cum_le_num a b k d e.val e.isLt
    rw [v23_at, w18_at m c a b k d hs hg, v12_at m c a b k d hs hg, cmpi_sge_ofNat_eq_one_iff (by omega) (by omega)]
  · simp only [Nat.count_succ, Nat.count_zero, ex, Nat.zero_add]

theorem w31_at (t : Fin 259) : V m c main_v31 (ValueIdx.ix2 t (0 : Fin 1)) = BitVec.ofNat 32 (ex a b k d t.val) := by
  obtain ⟨h4, -⟩ := ex_spec a b k d hs t.val
  rw [v31_at, v25_at m c a b k d hs hg]
  generalize ex a b k d t.val = e at h4
  interval_cases e <;> rfl

/-- Grid point `t`'s tile. -/
theorem v42_at (t : Fin 259) : V m c main_v42 (ValueIdx.ix1 t) = BitVec.ofNat 32 (tl a b k d t.val) := by
  obtain ⟨h4, h5, h6⟩ := ex_spec a b k d hs t.val
  obtain ⟨-, h7, -, -, h8⟩ := tl_spec a b k d hs t.val
  have hc := cum_le_num a b k d _ h4
  have h' := num_le a b k d hs
  have hg1 : ∀ x : IVec S4 32, Host.gather gather_S4_S259x1_S259_n_0_n_n_0_1_1 x (V m c main_v31 : IVec S259x1 32) (ValueIdx.ix1 t) = x (ValueIdx.ix1 (⟨ex a b k d t.val, h4⟩ : Fin 4)) := fun x =>
    gather_take1 (N := 4) (n := 259) gather_S4_S259x1_S259_n_0_n_n_0_1_1 rfl rfl rfl rfl x _ t ⟨ex a b k d t.val, h4⟩ (w31_at m c a b k d hs hg t) (by omega)
  rw [v42_eq]
  show IntOp.subi (IntOp.addi (Host.gather _ _ _ (ValueIdx.ix1 t)) (V m c main_v18 (ValueIdx.ix1 t))) (Host.gather _ _ _ (ValueIdx.ix1 t)) = _
  rw [hg1, hg1, w18_at m c a b k d hs hg, v2_at m c a b k d hs hg]
  show IntOp.subi (IntOp.addi _ _) (IntOp.subi (V m c main_v12 (ValueIdx.ix1 _)) (V m c main_v11 (ValueIdx.ix1 _))) = _
  rw [v12_at m c a b k d hs hg, v11_at m c a b k d hs hg]
  show BitVec.ofNat 32 _ + BitVec.ofNat 32 _ - (BitVec.ofNat 32 _ - BitVec.ofNat 32 _) = _
  unfold cum at *
  apply BitVec.eq_of_toNat_eq
  simp only [BitVec.toNat_sub, BitVec.toNat_add, BitVec.toNat_ofNat]
  omega

end Words

end Cert.Kernel.Hand
-- ==== Proof.Kernel.Frame.lean ====
/- The kernel's frame at four group sizes that sum to the number of tokens: the tables' words keep every block inside its
   array, the program runs to its end, and the argument arrays end as launched. -/
module

public import proofs.«01_k».proof.Proof.Kernel.Run
public import proofs.«01_k».proof.Proof.Kernel.Tables
public import Idealize.ShloMosaic.Lib.PairWhole

@[expose] public section

set_option maxRecDepth 16384

noncomputable section

namespace Cert.Kernel.Hand

open Idealize.ShloMosaic Idealize.ShloMosaic.TcCoe
open Idealize.SL.Sem
open Idealize.ShloMosaic.Pipeline (RDat)
open Cert.Kernel.Gen Cert.Sched

variable {F : FTy → Type} [FloatOps F]

/-- The one element of a unit rectangle of a table is the element at its offset. -/
theorem emb_first (off : Fin 1 → ℕ) (h : ∀ a, off a + S1.size a ≤ S259.size a) (v : Fin 259) (hv : off 0 = v.val)
    (h1 : 0 < (Rect.unit (s := S259) off S1.size h).shape.numel) :
    (Rect.unit (s := S259) off S1.size h).emb (Shape.Idx.first h1) = ValueIdx.ix1 v := by
  funext a
  have ha : a = (0 : Fin 1) := Subsingleton.elim (α := Fin 1) _ _
  subst ha
  refine Fin.ext ?_
  show off 0 + 1 * 0 = v.val
  omega

variable (m : (ℓ : Loc nD τ sig) → Buf (Elt F) ℓ)
variable (a b k d : ℕ) (hs : a + b + k + d = 65536)
variable (hg : ∀ (c : Dev nD) (e : Fin 4), V m c main_arg1 (ValueIdx.ix1 e) = BitVec.ofNat 32 (sz a b k d e.val))

theorem coord_lt (i : grid0.Coords) : (i 0).val < 259 := (i 0).isLt

theorem coord_word (i : grid0.Coords) : (BitVec.ofNat 32 (i 0).val).toNat = (i 0).val := by
  have := coord_lt i
  rw [BitVec.toNat_ofNat, Nat.mod_eq_of_lt (by omega)]

include hs hg

/-- The expert table's word at a grid point. -/
theorem tbl0_at (i : grid0.Coords) (off : Fin 1 → ℕ) (h : ∀ a, off a + S1.size a ≤ S259.size a) (hv : off 0 = (i 0).val) :
    (tbl m).at 0 (Rect.unit (s := S259) off S1.size h) numel1_S1 = BitVec.ofNat 32 (ex a b k d (i 0).val) :=
  (congrArg (V m 0 main_v25) (emb_first off h ⟨(i 0).val, coord_lt i⟩ hv _)).trans (v25_at m 0 a b k d hs (hg 0) _)

/-- The tile table's word at a grid point. -/
theorem tbl1_at (i : grid0.Coords) (off : Fin 1 → ℕ) (h : ∀ a, off a + S1.size a ≤ S259.size a) (hv : off 0 = (i 0).val) :
    (tbl m).at 1 (Rect.unit (s := S259) off S1.size h) numel1_S1 = BitVec.ofNat 32 (tl a b k d (i 0).val) :=
  (congrArg (V m 0 main_v42) (emb_first off h ⟨(i 0).val, coord_lt i⟩ hv _)).trans (v42_at m 0 a b k d hs (hg 0) _)

theorem tile_eq (i : grid0.Coords) :
    ((tbl m).at 1 (Rect.unit (s := S259) ![(BitVec.ofNat 32 (i 0).val).toNat] S1.size (k0_off1_inb i)) numel1_S1 : BitVec 32).toNat
      = tl a b k d (i 0).val := by
  obtain ⟨-, -, -, -, h8⟩ := tl_spec a b k d hs (i 0).val
  refine (congrArg BitVec.toNat (tbl1_at m a b k d hs hg i _ _ (coord_word i))).trans ?_
  rw [BitVec.toNat_ofNat, Nat.mod_eq_of_lt (by omega)]

theorem expert_eq (i : grid0.Coords) :
    ((tbl m).at 0 (Rect.unit (s := S259) ![(BitVec.ofNat 32 (i 0).val).toNat] S1.size (k0_off1_inb i)) numel1_S1 : BitVec 32).toNat
      = ex a b k d (i 0).val := by
  obtain ⟨h4, -, -⟩ := ex_spec a b k d hs (i 0).val
  refine (congrArg BitVec.toNat (tbl0_at m a b k d hs hg i _ _ (coord_word i))).trans ?_
  rw [BitVec.toNat_ofNat, Nat.mod_eq_of_lt (by omega)]

theorem transform_1_eq (i : grid0.Coords) : cc0_transform_1 k0_off1_inb numel1_S1 (tbl m) i = ![tl a b k d (i 0).val, 0] := by
  refine Eq.trans ?_ (congrArg (fun x : ℕ => ![x, 0]) (tile_eq m a b k d hs hg i)); rfl

theorem transform_2_eq (i : grid0.Coords) : cc0_transform_2 k0_off1_inb numel1_S1 (tbl m) i = ![ex a b k d (i 0).val, 0, 0] := by
  refine Eq.trans ?_ (congrArg (fun x : ℕ => ![x, 0, 0]) (expert_eq m a b k d hs hg i)); rfl

theorem transform_3_eq (i : grid0.Coords) : cc0_transform_3 k0_off1_inb numel1_S1 (tbl m) i = ![ex a b k d (i 0).val, 0, 0] := by
  refine Eq.trans ?_ (congrArg (fun x : ℕ => ![x, 0, 0]) (expert_eq m a b k d hs hg i)); rfl

theorem transform_4_eq (i : grid0.Coords) : cc0_transform_4 k0_off1_inb numel1_S1 (tbl m) i = ![tl a b k d (i 0).val, 0] := by
  refine Eq.trans ?_ (congrArg (fun x : ℕ => ![x, 0]) (tile_eq m a b k d hs hg i)); rfl

/-- Every block the tables name lies inside its array and starts and ends at whole words. -/
theorem ok_tbl : ok0 (F := F) (tbl m) := by
  refine ⟨fun i => ?_, fun i => ?_, fun i => ?_, fun i => ?_⟩
  · obtain ⟨-, -, -, -, h8⟩ := tl_spec a b k d hs (i 0).val
    rw [transform_1_eq m a b k d hs hg i]
    refine ⟨fun x => ?_, .inr (Rect.packedRows_of_rowAxis _ _ (Nat.le_refl 2) ⟨tl a b k d (i 0).val * 128, ?_⟩ ⟨128, rfl⟩ rfl).wholeWords⟩
    · fin_cases x
      · show (tl a b k d (i 0).val + 1) * 256 ≤ 65536
        omega
      · show (0 + 1) * 6144 ≤ 6144
        omega
    · show tl a b k d (i 0).val * 256 = 2 * (tl a b k d (i 0).val * 128)
      omega
  · obtain ⟨h4, -, -⟩ := ex_spec a b k d hs (i 0).val
    rw [transform_2_eq m a b k d hs hg i]
    refine ⟨fun x => ?_, .inr (Rect.packedRows_of_rowAxis _ _ (by decide) ⟨0, rfl⟩ ⟨1536, rfl⟩ rfl).wholeWords⟩
    fin_cases x
    · show (ex a b k d (i 0).val + 1) * 1 ≤ 4
      omega
    · show (0 + 1) * 6144 ≤ 6144
      omega
    · show (0 + 1) * 4096 ≤ 4096
      omega
  · obtain ⟨h4, -, -⟩ := ex_spec a b k d hs (i 0).val
    rw [transform_3_eq m a b k d hs hg i]
    refine ⟨fun x => ?_, .inl rfl⟩
    fin_cases x
    · show (ex a b k d (i 0).val + 1) * 1 ≤ 4
      omega
    · exact Nat.le_refl 1
    · show (0 + 1) * 4096 ≤ 4096
      omega
  · obtain ⟨-, -, -, -, h8⟩ := tl_spec a b k d hs (i 0).val
    rw [transform_4_eq m a b k d hs hg i]
    refine ⟨fun x => ?_, .inr (Rect.packedRows_of_rowAxis _ _ (Nat.le_refl 2) ⟨tl a b k d (i 0).val * 128, ?_⟩ ⟨128, rfl⟩ rfl).wholeWords⟩
    · fin_cases x
      · show (tl a b k d (i 0).val + 1) * 256 ≤ 65536
        omega
      · show (0 + 1) * 2048 ≤ 2048
        omega
    · show tl a b k d (i 0).val * 256 = 2 * (tl a b k d (i 0).val * 128)
      omega

/-- The expert the body reads at a point is one of the four. -/
theorem wE_eq (hO : ok0 (F := F) (tbl m)) (c : Dev nD) (t : Fin (cfg0 (adm m hO)).N) :
    wE (adm m hO) c t = BitVec.ofNat 32 (ex a b k d (grid0.coords t 0).val) :=
  tbl0_at m a b k d hs hg (grid0.coords t) _ (k0_off2_inb (grid0.coords t)) (coord_word (grid0.coords t))

theorem chk_tbl (hO : ok0 (F := F) (tbl m)) : Chk (adm m hO) := fun c t _ x => by
  obtain ⟨h4, -, -⟩ := ex_spec a b k d hs (grid0.coords t 0).val
  rw [wE_eq m a b k d hs hg hO c t]
  fin_cases x
  show (BitVec.ofNat 32 (ex a b k d (grid0.coords t 0).val)).toNat + 1 ≤ 4
  rw [BitVec.toNat_ofNat, Nat.mod_eq_of_lt (by omega)]
  omega

omit hs hg in
theorem arr_ne_arg1 : ∀ w, (spec0 w).arr.view.ref ≠ main_arg1 := by decide
omit hs hg in
theorem arr_ne_arg4 : ∀ w, (spec0 w).arr.view.ref ≠ main_arg4 := by decide

omit hs hg in
/-- A buffer that is no window's array ends as the grid found it. -/
theorem post_rest (hO : ok0 (F := F) (tbl m)) (P : Fin (cfg0 (adm m hO)).N → Vec F S256x2048 .bf16 → Prop)
    (r : PUnit × MemSt nD τ sig (Elt F)) (h : RDat.FramePost (cfg0 (adm m hO)) (rdat m hO P) (V m) r) (c : Dev nD) (b : Ref sig .tc)
    (hb : b ∈ Pipeline.restRefs sig spec0) : r.2.mem ((c.tc : Thread nD τ).loc b) = V m c b :=
  (h c).2 b hb

omit hs hg in
/-- A fetched window's array ends as the grid found it. -/
theorem post_in (hO : ok0 (F := F) (tbl m)) (P : Fin (cfg0 (adm m hO)).N → Vec F S256x2048 .bf16 → Prop)
    (r : PUnit × MemSt nD τ sig (Elt F)) (h : RDat.FramePost (cfg0 (adm m hO)) (rdat m hO P) (V m) r) (c : Dev nD) (w : Fin (cfg0 (adm m hO)).W)
    (hw : ((cfg0 (adm m hO)).win w).isOut = false) :
    r.2.mem ((c.tc : Thread nD τ).loc (Pipeline.arrRef spec0 w)) = V m c (Pipeline.arrRef spec0 w) :=
  (h.arr_in c w hw).trans (A_eq (adm m hO) (V m) c w)

/-- The program runs to its end, its argument arrays unchanged and every semaphore counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hO := ok_tbl m a b k d hs hg
  have hk := chk_tbl m a b k d hs hg hO
  refine (θ_run defs _ _).mono (fun r hr => ⟨fun c => ⟨?_, ?_, ?_, ?_, ?_⟩, hr.2⟩)
    (run_main m ρ hO hk (fun _ _ => True) ⟨fun _ _ _ _ => trivial, fun _ _ _ _ _ => trivial⟩)
  · exact (post_in m hO _ r hr.1 c 1 rfl).trans (V_main_arg0 m c)
  · exact (post_rest m hO _ r hr.1 c main_arg1 (Pipeline.mem_restRefs_of _ rfl arr_ne_arg1)).trans (V_main_arg1 m c)
  · exact (post_in m hO _ r hr.1 c 0 rfl).trans (V_main_arg2 m c)
  · exact (post_in m hO _ r hr.1 c 2 rfl).trans (V_main_arg3 m c)
  · exact (post_rest m hO _ r hr.1 c main_arg4 (Pipeline.mem_restRefs_of _ rfl arr_ne_arg4)).trans (V_main_arg4 m c)

end Cert.Kernel.Hand

end
-- ==== Proof.KernelIdeal.Entry.lean ====
/- The kernel's buffers when its grid starts: what the host operations before it leave, the argument arrays among
   them as launched, and the prefetched tables. -/
module

public import proofs.«01_k».proof.Proof.Gen.KernelIdeal.Launch
public import proofs.«01_k».proof.Proof.Gen.KernelIdeal.Skeleton
public import Idealize.ShloMosaic.Lib.Pipeline.Frame

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers when the grid starts: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program is the host operations, then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the grid starts (there is one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

abbrev tbM0_0 : Memref sig .tc .smem S259 .i32 := Memref.whole main_v25
abbrev htbM0_0 : tbM0_0.IsWhole := Memref.isWhole_whole _
abbrev tbM0_1 : Memref sig .tc .smem S259 .i32 := Memref.whole main_v42
abbrev htbM0_1 : tbM0_1.IsWhole := Memref.isWhole_whole _
abbrev tbM0_2 : Memref sig .tc .smem S1 .i32 := Memref.whole main_v43
abbrev htbM0_2 : tbM0_2.IsWhole := Memref.isWhole_whole _
abbrev tbM0_3 : Memref sig .tc .smem S4 .i32 := Memref.whole main_v1
abbrev htbM0_3 : tbM0_3.IsWhole := Memref.isWhole_whole _
abbrev tbM0_4 : Memref sig .tc .smem S4 .i32 := Memref.whole main_v0
abbrev htbM0_4 : tbM0_4.IsWhole := Memref.isWhole_whole _

/-- A table's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the body is handed, table by table. -/
theorem PhiT0_eq (T : pre0.Contents (Elt F)) (c : Dev nD) : (Pipeline.ΦT pre0 T c : sProp 𝕄) = iprop(tbPt0 c tbM0_0 (T 0) ∗ tbPt0 c tbM0_1 (T 1) ∗ tbPt0 c tbM0_2 (T 2) ∗ tbPt0 c tbM0_3 (T 3) ∗ tbPt0 c tbM0_4 (T 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

end Cert.KernelIdeal.Hand

end
-- ==== Proof.KernelIdeal.Body.lean ====
/- What the kernel's body leaves: over the contents of its operands' buffers, the output's buffer in closed form, eight
   column chunks of one function; and the body's triple, at a live work item and at a dead one. -/
module

public import proofs.«01_k».proof.Proof.KernelIdeal.Entry
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The one word of an SMEM memref at a rectangle of one element. -/
abbrev wd {S : Shape} {e : EltTy} (c : Dev nD) (M : Memref sig .tc .smem S e) (r : Rect S) (h1 : r.shape.numel = 1) (f : Buf (Elt F) (M.view.loc (c : Thread nD τ))) : Elt F e :=
  M.view.readAt (Elt F) r.toLoadRect f (Shape.Idx.first (h1.symm ▸ Nat.one_pos))

/-- One chunk of 256 columns: `mask` picks the rows that are the expert's; the others keep `old`. -/
def chunkV (s : Elt F .f32) (mask : IVec S256x256 1) (xq : Vec F S256x6144 .fp8e4m3) (wg wu : Vec F S1x6144x256 .fp8e4m3)
    (sg su : Vec F S1x1x256 .f32) (old : Vec F S256x256 .bf16) : Vec F S256x256 .bf16 :=
  k0_pay6 s mask (k0_pay4 xq wg) (k0_pay5 xq wu) sg su old

/-- The eight chunks' stores, the last first. -/
def outL (s : Elt F .f32) (mask : IVec S256x256 1) (xq : Vec F S256x6144 .fp8e4m3) (w : Vec F S1x6144x4096 .fp8e4m3)
    (ws : Vec F S1x1x4096 .f32) (Y : Vec F S256x2048 .bf16) : List (View.Piece (Elt F) S256x2048 .bf16) :=
  [⟨Rect.unit (s := S256x2048) ![0, 1792] S256x256.size inb_S256x2048_S256x256_0_1792, chunkV s mask xq (View.ld w (Rect.unit (s := S1x6144x4096) ![0, 0, 1792] S1x6144x256.size inb_S1x6144x4096_S1x6144x256_0_0_1792))
      (View.ld w (Rect.unit (s := S1x6144x4096) ![0, 0, 3840] S1x6144x256.size inb_S1x6144x4096_S1x6144x256_0_0_3840)) (View.ld ws (Rect.unit (s := S1x1x4096) ![0, 0, 1792] S1x1x256.size inb_S1x1x4096_S1x1x256_0_0_1792))
      (View.ld ws (Rect.unit (s := S1x1x4096) ![0, 0, 3840] S1x1x256.size inb_S1x1x4096_S1x1x256_0_0_3840)) (View.ld Y (Rect.unit (s := S256x2048) ![0, 1792] S256x256.size inb_S256x2048_S256x256_0_1792))⟩,
    ⟨Rect.unit (s := S256x2048) ![0, 1536] S256x256.size inb_S256x2048_S256x256_0_1536, chunkV s mask xq (View.ld w (Rect.unit (s := S1x6144x4096) ![0, 0, 1536] S1x6144x256.size inb_S1x6144x4096_S1x6144x256_0_0_1536))
      (View.ld w (Rect.unit (s := S1x6144x4096) ![0, 0, 3584] S1x6144x256.size inb_S1x6144x4096_S1x6144x256_0_0_3584)) (View.ld ws (Rect.unit (s := S1x1x4096) ![0, 0, 1536] S1x1x256.size inb_S1x1x4096_S1x1x256_0_0_1536))
      (View.ld ws (Rect.unit (s := S1x1x4096) ![0, 0, 3584] S1x1x256.size inb_S1x1x4096_S1x1x256_0_0_3584)) (View.ld Y (Rect.unit (s := S256x2048) ![0, 1536] S256x256.size inb_S256x2048_S256x256_0_1536))⟩,
    ⟨Rect.unit (s := S256x2048) ![0, 1280] S256x256.size inb_S256x2048_S256x256_0_1280, chunkV s mask xq (View.ld w (Rect.unit (s := S1x6144x4096) ![0, 0, 1280] S1x6144x256.size inb_S1x6144x4096_S1x6144x256_0_0_1280))
      (View.ld w (Rect.unit (s := S1x6144x4096) ![0, 0, 3328] S1x6144x256.size inb_S1x6144x4096_S1x6144x256_0_0_3328)) (View.ld ws (Rect.unit (s := S1x1x4096) ![0, 0, 1280] S1x1x256.size inb_S1x1x4096_S1x1x256_0_0_1280))
      (View.ld ws (Rect.unit (s := S1x1x4096) ![0, 0, 3328] S1x1x256.size inb_S1x1x4096_S1x1x256_0_0_3328)) (View.ld Y (Rect.unit (s := S256x2048) ![0, 1280] S256x256.size inb_S256x2048_S256x256_0_1280))⟩,
    ⟨Rect.unit (s := S256x2048) ![0, 1024] S256x256.size inb_S256x2048_S256x256_0_1024, chunkV s mask xq (View.ld w (Rect.unit (s := S1x6144x4096) ![0, 0, 1024] S1x6144x256.size inb_S1x6144x4096_S1x6144x256_0_0_1024))
      (View.ld w (Rect.unit (s := S1x6144x4096) ![0, 0, 3072] S1x6144x256.size inb_S1x6144x4096_S1x6144x256_0_0_3072)) (View.ld ws (Rect.unit (s := S1x1x4096) ![0, 0, 1024] S1x1x256.size inb_S1x1x4096_S1x1x256_0_0_1024))
      (View.ld ws (Rect.unit (s := S1x1x4096) ![0, 0, 3072] S1x1x256.size inb_S1x1x4096_S1x1x256_0_0_3072)) (View.ld Y (Rect.unit (s := S256x2048) ![0, 1024] S256x256.size inb_S256x2048_S256x256_0_1024))⟩,
    ⟨Rect.unit (s := S256x2048) ![0, 768] S256x256.size inb_S256x2048_S256x256_0_768, chunkV s mask xq (View.ld w (Rect.unit (s := S1x6144x4096) ![0, 0, 768] S1x6144x256.size inb_S1x6144x4096_S1x6144x256_0_0_768))
      (View.ld w (Rect.unit (s := S1x6144x4096) ![0, 0, 2816] S1x6144x256.size inb_S1x6144x4096_S1x6144x256_0_0_2816)) (View.ld ws (Rect.unit (s := S1x1x4096) ![0, 0, 768] S1x1x256.size inb_S1x1x4096_S1x1x256_0_0_768))
      (View.ld ws (Rect.unit (s := S1x1x4096) ![0, 0, 2816] S1x1x256.size inb_S1x1x4096_S1x1x256_0_0_2816)) (View.ld Y (Rect.unit (s := S256x2048) ![0, 768] S256x256.size inb_S256x2048_S256x256_0_768))⟩,
    ⟨Rect.unit (s := S256x2048) ![0, 512] S256x256.size inb_S256x2048_S256x256_0_512, chunkV s mask xq (View.ld w (Rect.unit (s := S1x6144x4096) ![0, 0, 512] S1x6144x256.size inb_S1x6144x4096_S1x6144x256_0_0_512))
      (View.ld w (Rect.unit (s := S1x6144x4096) ![0, 0, 2560] S1x6144x256.size inb_S1x6144x4096_S1x6144x256_0_0_2560)) (View.ld ws (Rect.unit (s := S1x1x4096) ![0, 0, 512] S1x1x256.size inb_S1x1x4096_S1x1x256_0_0_512))
      (View.ld ws (Rect.unit (s := S1x1x4096) ![0, 0, 2560] S1x1x256.size inb_S1x1x4096_S1x1x256_0_0_2560)) (View.ld Y (Rect.unit (s := S256x2048) ![0, 512] S256x256.size inb_S256x2048_S256x256_0_512))⟩,
    ⟨Rect.unit (s := S256x2048) ![0, 256] S256x256.size inb_S256x2048_S256x256_0_256, chunkV s mask xq (View.ld w (Rect.unit (s := S1x6144x4096) ![0, 0, 256] S1x6144x256.size inb_S1x6144x4096_S1x6144x256_0_0_256))
      (View.ld w (Rect.unit (s := S1x6144x4096) ![0, 0, 2304] S1x6144x256.size inb_S1x6144x4096_S1x6144x256_0_0_2304)) (View.ld ws (Rect.unit (s := S1x1x4096) ![0, 0, 256] S1x1x256.size inb_S1x1x4096_S1x1x256_0_0_256))
      (View.ld ws (Rect.unit (s := S1x1x4096) ![0, 0, 2304] S1x1x256.size inb_S1x1x4096_S1x1x256_0_0_2304)) (View.ld Y (Rect.unit (s := S256x2048) ![0, 256] S256x256.size inb_S256x2048_S256x256_0_256))⟩,
    ⟨Rect.unit (s := S256x2048) ![0, 0] S256x256.size inb_S256x2048_S256x256_0_0, chunkV s mask xq (View.ld w (Rect.unit (s := S1x6144x4096) ![0, 0, 0] S1x6144x256.size inb_S1x6144x4096_S1x6144x256_0_0_0))
      (View.ld w (Rect.unit (s := S1x6144x4096) ![0, 0, 2048] S1x6144x256.size inb_S1x6144x4096_S1x6144x256_0_0_2048)) (View.ld ws (Rect.unit (s := S1x1x4096) ![0, 0, 0] S1x1x256.size inb_S1x1x4096_S1x1x256_0_0_0))
      (View.ld ws (Rect.unit (s := S1x1x4096) ![0, 0, 2048] S1x1x256.size inb_S1x1x4096_S1x1x256_0_0_2048)) (View.ld Y (Rect.unit (s := S256x2048) ![0, 0] S256x256.size inb_S256x2048_S256x256_0_0))⟩]

/-- The output block the body leaves over the block `Y` it found. -/
def outV (s : Elt F .f32) (mask : IVec S256x256 1) (x : Vec F S256x6144 .bf16) (w : Vec F S1x6144x4096 .fp8e4m3)
    (ws : Vec F S1x1x4096 .f32) (Y : Vec F S256x2048 .bf16) : Vec F S256x2048 .bf16 :=
  View.canon (outL s mask (k0_pay2 s x) w ws Y)

theorem outL_cover (s : Elt F .f32) (mask : IVec S256x256 1) (xq : Vec F S256x6144 .fp8e4m3) (w : Vec F S1x6144x4096 .fp8e4m3)
    (ws : Vec F S1x1x4096 .f32) (Y : Vec F S256x2048 .bf16) (y : S256x2048.Idx) : ∃ p ∈ outL s mask xq w ws Y, y ∈ p.1.set :=
  View.cover_of_tiled (s := S256x2048) _ ![256, 256] rfl y

set_option maxHeartbeats 4000000 in
/-- The body at a live item. -/
theorem sound_live (c : Dev nD) (E : Set ℕ) (i : grid0.Coords) (arg1 : Memref sig .tc .smem S259 .i32) (harg1 : arg1.IsWhole) (arg2 : Memref sig .tc .smem S259 .i32) (harg2 : arg2.IsWhole) (arg3 : Memref sig .tc .smem S1 .i32) (harg3 : arg3.IsWhole) (arg4 : Memref sig .tc .smem S4 .i32) (harg4 : arg4.IsWhole) (arg5 : Memref sig .tc .smem S4 .i32) (harg5 : arg5.IsWhole) (arg6 : Memref sig .tc .smem S4 .f32) (harg6 : arg6.IsWhole) (arg7 : Memref sig .tc .vmem S256x6144 .bf16) (harg7 : arg7.IsWhole) (arg8 : Memref sig .tc .vmem S1x6144x4096 .fp8e4m3) (harg8 : arg8.IsWhole) (arg9 : Memref sig .tc .vmem S1x1x4096 .f32) (harg9 : arg9.IsWhole) (arg10 : Memref sig .tc .vmem S256x2048 .bf16) (harg10 : arg10.IsWhole) (arg11 : Memref sig .tc .vmem S256x6144 .fp8e4m3) (harg11 : arg11.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (x7 : Vec F S256x6144 .bf16) (x8 : Vec F S1x6144x4096 .fp8e4m3) (x9 : Vec F S1x1x4096 .f32) (Y : Vec F S256x2048 .bf16)
    (hc : k0_cond1 i (wd c arg3 (Rect.unit (s := S1) ![0] S1.size inb_S1_S1_0) numel1_S1 f3) = 1#1)
    (hw : k0_chk1 i (wd c arg3 (Rect.unit (s := S1) ![0] S1.size inb_S1_S1_0) numel1_S1 f3) (wd c arg1 (Rect.unit (s := S259) (k0_off2 i) S1.size (k0_off2_inb i)) numel1_S1 f1)) (K : PUnit → sProp 𝕄) :
    iprop((arg1.view.loc (c : Thread nD τ) ↦{fullShare.right} f1)∗ (arg2.view.loc (c : Thread nD τ) ↦{fullShare.right} f2)∗ (arg3.view.loc (c : Thread nD τ) ↦{fullShare.right} f3)∗ (arg4.view.loc (c : Thread nD τ) ↦{fullShare.right} f4)∗ (arg5.view.loc (c : Thread nD τ) ↦{fullShare.right} f5)∗ (arg6.view.loc (c : Thread nD τ) ↦{fullShare} f6)∗ owns (c : Thread nD τ) arg7 fullShare x7∗ owns (c : Thread nD τ) arg8 fullShare x8∗ owns (c : Thread nD τ) arg9 fullShare x9 ∗ owns (c : Thread nD τ) arg10 fullShare Y ∗ (∃ d, owns (c : Thread nD τ) arg11 fullShare d)
        ∗ (iprop((arg1.view.loc (c : Thread nD τ) ↦{fullShare.right} f1)∗ (arg2.view.loc (c : Thread nD τ) ↦{fullShare.right} f2)∗ (arg3.view.loc (c : Thread nD τ) ↦{fullShare.right} f3)∗ (arg4.view.loc (c : Thread nD τ) ↦{fullShare.right} f4)∗ (arg5.view.loc (c : Thread nD τ) ↦{fullShare.right} f5)∗ (arg6.view.loc (c : Thread nD τ) ↦{fullShare} f6)∗ owns (c : Thread nD τ) arg7 fullShare x7∗ owns (c : Thread nD τ) arg8 fullShare x8∗ owns (c : Thread nD τ) arg9 fullShare x9 ∗ owns (c : Thread nD τ) arg10 fullShare (outV (wd c arg6 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f6)
            (k0_pay3 (wd c arg2 (Rect.unit (s := S259) (k0_off4 i) S1.size (k0_off4_inb i)) numel1_S1 f2) (wd c arg4 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f4) (wd c arg5 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f5)) x7 x8 x9 Y) ∗ (∃ d, owns (c : Thread nD τ) arg11 fullShare d)) -∗ K ⟨⟩))
      ⊢ wp frame (wpE (defs₀ (F := F)) Variants.none c none) E (cc0_moe_gate_up_swiglu i arg1 harg1 arg2 harg2 arg3 harg3 arg4 harg4 arg5 harg5 arg6 harg6 arg7 harg7 arg8 harg8 arg9 harg9 arg10 harg10 arg11 harg11) K := by
  simp only [cc0_moe_gate_up_swiglu_eq_skeleton]; unfold cc0_moe_gate_up_swiglu_skel
  simp only [k0_part1_eq_skeleton, k0_part2_eq_skeleton, k0_part3_eq_skeleton, k0_part4_eq_skeleton, k0_part5_eq_skeleton, k0_part6_eq_skeleton, k0_part7_eq_skeleton]
  unfold owns
  iintro ⟨H1, H2, H3, H4, H5, H6, ⟨%f7, %hf7, H7⟩, ⟨%f8, %hf8, H8⟩, ⟨%f9, %hf9, H9⟩, ⟨%f10, %hf10, H10⟩, ⟨%d11, %f11, -, H11⟩, Hk⟩
  subst hf7 hf8 hf9 hf10
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    have hxq : sound_live.sl.v35 c i arg1 arg3 arg6 arg7 arg11 f1 f3 f6 hc hw f7 = k0_pay2 (wd c arg6 (Rect.unit (s := S4) (k0_off3 (wd c arg1 (Rect.unit (s := S259) (k0_off2 i) S1.size (k0_off2_inb i)) numel1_S1 f1)) S1.size (k0_off3_inb i (wd c arg3 (Rect.unit (s := S1) ![0] S1.size inb_S1_S1_0) numel1_S1 f3) (wd c arg1 (Rect.unit (s := S259) (k0_off2 i) S1.size (k0_off2_inb i)) numel1_S1 f1) hw hc)) numel1_S1 f6) (arg7.view.read (Elt F) f7) := by
      unfold sound_live.sl.v35 sound_live.sl.H11_1
      rw [View.readCov_full]
      exact congrArg (k0_pay2 _) (View.ld_unit_zero (by funext a; revert a; decide) _ _)
    refine Eq.trans (congrArg (fun L => arg10.view.read (Elt F) (arg10.view.writes (Elt F) f10 L)) ?_) (View.read_writes_eq_canon arg10.view f10 _ (outL_cover _ _ _ _ _ _))
    unfold sound_live.sl.r_7 sound_live.sl.r_8 sound_live.sl.r_9 sound_live.sl.r_10 sound_live.sl.r_12 sound_live.sl.r_13 sound_live.sl.r_15 sound_live.sl.r_17
    simp only [hxq]
    rfl
  · iexists _, _; isplitr; swap; · iexact H11
    ipureintro; rfl

/-- The body at a dead item: nothing runs. -/
theorem sound_dead (c : Dev nD) (E : Set ℕ) (i : grid0.Coords) (arg1 : Memref sig .tc .smem S259 .i32) (harg1 : arg1.IsWhole) (arg2 : Memref sig .tc .smem S259 .i32) (harg2 : arg2.IsWhole) (arg3 : Memref sig .tc .smem S1 .i32) (harg3 : arg3.IsWhole) (arg4 : Memref sig .tc .smem S4 .i32) (harg4 : arg4.IsWhole) (arg5 : Memref sig .tc .smem S4 .i32) (harg5 : arg5.IsWhole) (arg6 : Memref sig .tc .smem S4 .f32) (harg6 : arg6.IsWhole) (arg7 : Memref sig .tc .vmem S256x6144 .bf16) (harg7 : arg7.IsWhole) (arg8 : Memref sig .tc .vmem S1x6144x4096 .fp8e4m3) (harg8 : arg8.IsWhole) (arg9 : Memref sig .tc .vmem S1x1x4096 .f32) (harg9 : arg9.IsWhole) (arg10 : Memref sig .tc .vmem S256x2048 .bf16) (harg10 : arg10.IsWhole) (arg11 : Memref sig .tc .vmem S256x6144 .fp8e4m3) (harg11 : arg11.IsWhole)
    (f3 : Buf (Elt F) (arg3.view.loc (c : Thread nD τ)))
    (hc : ¬ k0_cond1 i (wd c arg3 (Rect.unit (s := S1) ![0] S1.size inb_S1_S1_0) numel1_S1 f3) = 1#1) (K : PUnit → sProp 𝕄) :
    iprop((arg3.view.loc (c : Thread nD τ) ↦{fullShare.right} f3) ∗ ((arg3.view.loc (c : Thread nD τ) ↦{fullShare.right} f3) -∗ K ⟨⟩))
      ⊢ wp frame (wpE (defs₀ (F := F)) Variants.none c none) E (cc0_moe_gate_up_swiglu i arg1 harg1 arg2 harg2 arg3 harg3 arg4 harg4 arg5 harg5 arg6 harg6 arg7 harg7 arg8 harg8 arg9 harg9 arg10 harg10 arg11 harg11) K := by
  simp only [cc0_moe_gate_up_swiglu_eq_skeleton]; unfold cc0_moe_gate_up_swiglu_skel
  iintro ⟨H3, Hk⟩
  sl_exec
  sl_step
  iapply Hk
  iexact H3

end Cert.KernelIdeal.Hand

end
-- ==== Proof.KernelIdeal.Run.lean ====
/- The run of the whole program at any predicate on the output's blocks that the body keeps, over prefetched tables that
   are admissible: each output block that is written back satisfies the predicate, every other array is unchanged. -/
module

public import proofs.«01_k».proof.Proof.KernelIdeal.Body
public import Idealize.ShloMosaic.Lib.Pipeline.FrameBody
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal.Gen

variable {F : FTy → Type} [FloatOps F]

local notation "𝕄" => MT nD τ sig Unit (Elt F) ℕ (UR sig nD τ) ℕ

section Data

variable (a : (pcfg0 (F := F)).Adm) (Vf : (c : Dev nD) → (b : Ref sig .tc) → Buf (Elt F) ((c : Thread nD τ).loc b))

/-- Window `w`'s block at point `t`, read off its array as the grid finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (Vf c (Pipeline.arrRef spec0 w))

/-- The proof data of the grid on core `c`; the output's part of `after` is never read (the run states it by a relation). -/
def dats (c : Dev nD) : Dat τ (Elt F) Unit ℕ (UR sig nD τ) ℕ (cfg0 a) c where
  A w := Vf c (Pipeline.arrRef spec0 w)
  after w t := match w with
    | ⟨0, _⟩ => iblk a Vf c 0 t
    | ⟨1, _⟩ => iblk a Vf c 1 t
    | ⟨2, _⟩ => iblk a Vf c 2 t
    | ⟨3, _⟩ => iblk a Vf c 3 t
    | ⟨4, _⟩ => iblk a Vf c 4 t
  Φ _ := iprop(Pipeline.ΦA spec0 c ∗ Pipeline.ΦT pre0 a.1 c)
  q _ := fullShare
  owed _ := 0

theorem A_eq (c : Dev nD) (w : Fin (cfg0 a).W) : (dats a Vf c).A w = Vf c (Pipeline.arrRef spec0 w) := by
  dsimp only [dats]
theorem after0_0 (c : Dev nD) (t : Fin (cfg0 a).N) : (dats a Vf c).after 0 t = iblk a Vf c 0 t := rfl
theorem after0_1 (c : Dev nD) (t : Fin (cfg0 a).N) : (dats a Vf c).after 1 t = iblk a Vf c 1 t := rfl
theorem after0_2 (c : Dev nD) (t : Fin (cfg0 a).N) : (dats a Vf c).after 2 t = iblk a Vf c 2 t := rfl
theorem after0_3 (c : Dev nD) (t : Fin (cfg0 a).N) : (dats a Vf c).after 3 t = iblk a Vf c 3 t := rfl
/-- Input window 0's staging buffer holds its block at every point. -/
theorem before0_0 (c : Dev nD) (t : Fin (cfg0 a).N) (d) : (dats a Vf c).before 0 t d = iblk a Vf c 0 t :=
  ((dats a Vf c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's staging buffer holds its block at every point. -/
theorem before0_1 (c : Dev nD) (t : Fin (cfg0 a).N) (d) : (dats a Vf c).before 1 t d = iblk a Vf c 1 t :=
  ((dats a Vf c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's staging buffer holds its block at every point. -/
theorem before0_2 (c : Dev nD) (t : Fin (cfg0 a).N) (d) : (dats a Vf c).before 2 t d = iblk a Vf c 2 t :=
  ((dats a Vf c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's staging buffer holds its block at every point. -/
theorem before0_3 (c : Dev nD) (t : Fin (cfg0 a).N) (d) : (dats a Vf c).before 3 t d = iblk a Vf c 3 t :=
  ((dats a Vf c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## What the body reads of the tables at a point -/

/-- The work items' number. -/
abbrev wN (c : Dev nD) : Elt F .i32 := (wd c tbM0_2 (Rect.unit (s := S1) ![0] S1.size inb_S1_S1_0) numel1_S1 (a.1 2))
/-- Item `t`'s expert. -/
abbrev wE (c : Dev nD) (t : Fin (cfg0 a).N) : Elt F .i32 := (wd c tbM0_0 (Rect.unit (s := S259) (k0_off2 (grid0.coords t)) S1.size (k0_off2_inb (grid0.coords t))) numel1_S1 (a.1 0))
/-- Item `t`'s tile of rows. -/
abbrev wT (c : Dev nD) (t : Fin (cfg0 a).N) : Elt F .i32 := wd c tbM0_1 (Rect.unit (s := S259) (k0_off4 (grid0.coords t)) S1.size (k0_off4_inb (grid0.coords t))) numel1_S1 (a.1 1)
/-- Item `t` does work. -/
abbrev Live (c : Dev nD) (t : Fin (cfg0 a).N) : Prop := k0_cond1 (grid0.coords t) (wN a c) = 1#1
/-- The body's check of the expert it reads, at every point. -/
abbrev Chk : Prop := ∀ (c : Dev nD) (t : Fin (cfg0 a).N), k0_chk1 (grid0.coords t) (wN a c) (wE a c t)

variable (hk : Chk a)

/-- The first row of item `t`'s expert, the row past its last, and its scale. -/
abbrev wS (c : Dev nD) (t : Fin (cfg0 a).N) (hl : Live a c t) : Elt F .i32 :=
  wd c tbM0_3 (Rect.unit (s := S4) (k0_off3 (wE a c t)) S1.size (k0_off3_inb (grid0.coords t) (wN a c) (wE a c t) (hk c t) hl)) numel1_S1 (a.1 3)
abbrev wD (c : Dev nD) (t : Fin (cfg0 a).N) (hl : Live a c t) : Elt F .i32 :=
  wd c tbM0_4 (Rect.unit (s := S4) (k0_off3 (wE a c t)) S1.size (k0_off3_inb (grid0.coords t) (wN a c) (wE a c t) (hk c t) hl)) numel1_S1 (a.1 4)
abbrev wX (c : Dev nD) (t : Fin (cfg0 a).N) (hl : Live a c t) : Elt F .f32 :=
  View.ld (Val := Elt F) (iblk a Vf c 0 t : Vec F S4 .f32) (Rect.unit (s := S4) (k0_off3 (wE a c t)) S1.size (k0_off3_inb (grid0.coords t) (wN a c) (wE a c t) (hk c t) hl)) (Shape.Idx.first (numel1_S1.symm ▸ Nat.one_pos))

/-- The output block the body leaves at point `t` over the block `Y` it found. -/
def bodyOut (c : Dev nD) (t : Fin (cfg0 a).N) (Y : Vec F S256x2048 .bf16) : Vec F S256x2048 .bf16 :=
  if hl : Live a c t then
    outV (wX a Vf hk c t hl) (k0_pay3 (wT a c t) (wS a hk c t hl) (wD a hk c t hl)) (iblk a Vf c 1 t) (iblk a Vf c 2 t) (iblk a Vf c 3 t) Y
  else Y

/-- The body at point `t`, on what the pipeline calls it with. -/
abbrev bodyAt (t : Fin (cfg0 a).N) : Prog (TpuEff nD τ sig (Elt F) Λ₀ .tc) PUnit :=
  cc0_moe_gate_up_swiglu (grid0.coords t) tbM0_0 htbM0_0 tbM0_1 htbM0_1 tbM0_2 htbM0_2 tbM0_3 htbM0_3 tbM0_4 htbM0_4 ((cfg0 a).win 0 |>.stage ((cfg0 a).slots t 0)) (hstage0_0 (((cfg0 a).slots t 0).cast nbuf0_0)) ((cfg0 a).win 1 |>.stage ((cfg0 a).slots t 1)) (hstage0_1 (((cfg0 a).slots t 1).cast nbuf0_1)) ((cfg0 a).win 2 |>.stage ((cfg0 a).slots t 2)) (hstage0_2 (((cfg0 a).slots t 2).cast nbuf0_2)) ((cfg0 a).win 3 |>.stage ((cfg0 a).slots t 3)) (hstage0_3 (((cfg0 a).slots t 3).cast nbuf0_3)) ((cfg0 a).win 4 |>.stage ((cfg0 a).slots t 4)) (hstage0_4 (((cfg0 a).slots t 4).cast nbuf0_4)) (Memref.whole cc0_scratch0) (Memref.isWhole_whole _)

theorem defs₀_row (t : Fin (cfg0 a).N) :
    defs₀ (F := F) .tc (cfg0 a).body ((cfg0 a).bodyArgs t ((cfg0 a).slots t)) = bodyAt a t := by
  unfold defs₀; rw [Defs.onTc_tc]; rfl

abbrev stg (w : Fin (cfg0 a).W) (t : Fin (cfg0 a).N) := ((cfg0 a).win w).stage ((cfg0 a).slots t w)

/-- Ownership of the whole first staging buffer is a points-to of contents read as `X`. -/
theorem owns0_eq (c : Dev nD) (t : Fin (cfg0 a).N) :
    (owns (c : Thread nD τ) (stg a 0 t) fullShare (iblk a Vf c 0 t) : sProp 𝕄)
      = iprop(∃ f, ⌜(stg a 0 t).view.read (Elt F) f = iblk a Vf c 0 t⌝ ∗ ((stg a 0 t).view.loc (c : Thread nD τ)) ↦{fullShare} f) := by
  have e : (stg a 0 t).view.set = Finset.univ := (hstage0_0 (((cfg0 a).slots t 0).cast nbuf0_0)).set_eq_univ
  unfold owns
  simp only [e]

/-- The body at any point: the inputs' blocks and the tables are read, the output's block goes from `Y` to `bodyOut`. -/
theorem sound_point (c : Dev nD) (t : Fin (cfg0 a).N) (Y : Vec F S256x2048 .bf16) (K : PUnit → sProp 𝕄) :
    iprop((Pipeline.ΦA spec0 c ∗ Pipeline.ΦT pre0 a.1 c) ∗ owns (c : Thread nD τ) (stg a 0 t) fullShare (iblk a Vf c 0 t) ∗ owns (c : Thread nD τ) (stg a 1 t) fullShare (iblk a Vf c 1 t)
        ∗ owns (c : Thread nD τ) (stg a 2 t) fullShare (iblk a Vf c 2 t) ∗ owns (c : Thread nD τ) (stg a 3 t) fullShare (iblk a Vf c 3 t) ∗ owns (c : Thread nD τ) (stg a 4 t) fullShare Y
        ∗ (iprop((Pipeline.ΦA spec0 c ∗ Pipeline.ΦT pre0 a.1 c) ∗ owns (c : Thread nD τ) (stg a 0 t) fullShare (iblk a Vf c 0 t) ∗ owns (c : Thread nD τ) (stg a 1 t) fullShare (iblk a Vf c 1 t)
        ∗ owns (c : Thread nD τ) (stg a 2 t) fullShare (iblk a Vf c 2 t) ∗ owns (c : Thread nD τ) (stg a 3 t) fullShare (iblk a Vf c 3 t) ∗ owns (c : Thread nD τ) (stg a 4 t) fullShare (bodyOut a Vf hk c t Y)) -∗ K ⟨⟩))
      ⊢ wp frame (wpE (defs₀ (F := F)) Variants.none c none) Set.univ (bodyAt a t) K := by
  unfold Pipeline.ΦA
  rw [owns0_eq, PhiT0_eq, scopedRest0_eq]
  by_cases hl : Live a c t
  · rw [show bodyOut a Vf hk c t Y = _ from dif_pos hl]
    iintro ⟨⟨⟨⟨%fs, Hs⟩, Hp⟩, T0, T1, T2, T3, T4⟩, H0, H1, H2, H3, H4, Hk⟩
    icases H0 with ⟨%f6, %hf6, H0⟩
    have hX : wX a Vf hk c t hl = wd c (stg a 0 t) (Rect.unit (s := S4) (k0_off3 (wE a c t)) S1.size (k0_off3_inb (grid0.coords t) (wN a c) (wE a c t) (hk c t) hl)) numel1_S1 f6 := by
      unfold wX; rw [← hf6]; rfl
    iapply (sound_live c Set.univ (grid0.coords t) tbM0_0 htbM0_0 tbM0_1 htbM0_1 tbM0_2 htbM0_2 tbM0_3 htbM0_3 tbM0_4 htbM0_4 _ _ _ _ _ _ _ _ _ _ _ _ (a.1 0) (a.1 1) (a.1 2) (a.1 3) (a.1 4) f6 (iblk a Vf c 1 t) (iblk a Vf c 2 t) (iblk a Vf c 3 t) Y hl (hk c t) K)
    isplitl [T0]; · iexact T0
    isplitl [T1]; · iexact T1
    isplitl [T2]; · iexact T2
    isplitl [T3]; · iexact T3
    isplitl [T4]; · iexact T4
    isplitl [H0]; · iexact H0
    isplitl [H1]; · iexact H1
    isplitl [H2]; · iexact H2
    isplitl [H3]; · iexact H3
    isplitl [H4]; · iexact H4
    isplitl [Hs]
    · iexists fs; rw [owns_whole]; iexact Hs
    iintro ⟨T0, T1, T2, T3, T4, H0, H1, H2, H3, H4, ⟨%d11, Hs⟩⟩
    iapply Hk
    isplitl [Hs Hp T0 T1 T2 T3 T4]
    · isplitl [Hs Hp]
      · isplitl [Hs]
        · iexists d11; rw [← owns_whole (c : Thread nD τ) cc0_scratch0 fullShare d11]; iexact Hs
        iexact Hp
      isplitl [T0]; · iexact T0
      isplitl [T1]; · iexact T1
      isplitl [T2]; · iexact T2
      isplitl [T3]; · iexact T3
      iexact T4
    isplitl [H0]
    · iexists f6; isplitr
      · ipureintro; exact hf6
      iexact H0
    isplitl [H1]; · iexact H1
    isplitl [H2]; · iexact H2
    isplitl [H3]; · iexact H3
    rw [hX]
    iexact H4
  · rw [show bodyOut a Vf hk c t Y = _ from dif_neg hl]
    iintro ⟨⟨⟨⟨%fs, Hs⟩, Hp⟩, T0, T1, T2, T3, T4⟩, H0, H1, H2, H3, H4, Hk⟩
    iapply (sound_dead c Set.univ (grid0.coords t) tbM0_0 htbM0_0 tbM0_1 htbM0_1 tbM0_2 htbM0_2 tbM0_3 htbM0_3 tbM0_4 htbM0_4 _ _ _ _ _ _ _ _ _ _ _ _ (a.1 2) hl K)
    isplitl [T2]; · iexact T2
    iintro T2
    iapply Hk
    isplitl [Hs Hp T0 T1 T2 T3 T4]
    · isplitl [Hs Hp]
      · isplitl [Hs]
        · iexists _; iexact Hs
        iexact Hp
      isplitl [T0]; · iexact T0
      isplitl [T1]; · iexact T1
      isplitl [T2]; · iexact T2
      isplitl [T3]; · iexact T3
      iexact T4
    isplitl [H0]; · iexact H0
    isplitl [H1]; · iexact H1
    isplitl [H2]; · iexact H2
    isplitl [H3]; · iexact H3
    iexact H4

/-! ## The relational data: the output's block satisfies `P` after every point -/

/-- Only the output's window is held to a relation. -/
abbrev fgt : Fin (cfg0 a).W → Bool := fun | 4 => true | _ => false

/-- The relation: `P` at the output's window. -/
abbrev Rl (P : Fin (cfg0 a).N → Vec F S256x2048 .bf16 → Prop) :
    (w : Fin (cfg0 a).W) → Fin (cfg0 a).N → (((cfg0 a).win w).block.Idx → Elt F ((cfg0 a).win w).elt) → Prop :=
  fun | 4 => fun t X => P t X | 0 => fun _ _ => True | 1 => fun _ _ => True | 2 => fun _ _ => True | 3 => fun _ _ => True

variable (P : Fin (cfg0 a).N → Vec F S256x2048 .bf16 → Prop)

/-- The body keeps `P`: at a point that may find anything in the output's buffer, and at one that finds what the point
    before left. -/
structure Keeps : Prop where
  fresh : ∀ (c : Dev nD) (t : Fin (cfg0 a).N), (t.val = 0 ∨ ((cfg0 a).win 4).flush ⟨t.val - 1, Nat.lt_of_le_of_lt (Nat.sub_le _ _) t.isLt⟩ = true) → ∀ Y, P t (bodyOut a Vf hk c t Y)
  next : ∀ (c : Dev nD) (t : Fin (cfg0 a).N), t.val ≠ 0 → ∀ Y, P ⟨t.val - 1, Nat.lt_of_le_of_lt (Nat.sub_le _ _) t.isLt⟩ Y → P t (bodyOut a Vf hk c t Y)

variable {P} in
theorem Keeps.step (h : Keeps a Vf hk P) (c : Dev nD) (t : Fin (cfg0 a).N) (Y : Vec F S256x2048 .bf16)
    (hf : ((dats a Vf c).toRRel (fgt a) (Rl a P)).Finds 4 t Y) : P t (bodyOut a Vf hk c t Y) := by
  by_cases h0 : t.val = 0
  · exact h.fresh c t (.inl h0) Y
  · rcases (RDat.finds_of_pos _ (w := (4 : Fin (cfg0 a).W)) rfl h0 Y).mp hf with hfl | hle
    · exact h.fresh c t (.inr hfl) Y
    · exact h.next c t h0 Y ((dats a Vf c).toRRel_leaves (fgt := fgt a) (Rl := Rl a P) (w := 4) rfl hle)

/-- The body's step at a point, window by window. -/
theorem body_step (h : Keeps a Vf hk P) (c : Dev nD) (t : Fin (cfg0 a).N) (O : sProp 𝕄) :
    iprop((Pipeline.ΦA spec0 c ∗ Pipeline.ΦT pre0 a.1 c) ∗ O
        ∗ (∃ d, owns (c : Thread nD τ) (stg a 0 t) fullShare ((dats a Vf c).before 0 t d)) ∗ (∃ d, owns (c : Thread nD τ) (stg a 1 t) fullShare ((dats a Vf c).before 1 t d))
        ∗ (∃ d, owns (c : Thread nD τ) (stg a 2 t) fullShare ((dats a Vf c).before 2 t d)) ∗ (∃ d, owns (c : Thread nD τ) (stg a 3 t) fullShare ((dats a Vf c).before 3 t d))
        ∗ (∃ Y, ⌜((dats a Vf c).toRRel (fgt a) (Rl a P)).Finds 4 t Y⌝ ∗ owns (c : Thread nD τ) (stg a 4 t) fullShare Y))
      ⊢ wp frame (wpE (defs₀ (F := F)) Variants.none c none) Set.univ (bodyAt a t)
          (fun _ => iprop((Pipeline.ΦA spec0 c ∗ Pipeline.ΦT pre0 a.1 c) ∗ O
        ∗ owns (c : Thread nD τ) (stg a 0 t) fullShare ((dats a Vf c).after 0 t) ∗ owns (c : Thread nD τ) (stg a 1 t) fullShare ((dats a Vf c).after 1 t)
        ∗ owns (c : Thread nD τ) (stg a 2 t) fullShare ((dats a Vf c).after 2 t) ∗ owns (c : Thread nD τ) (stg a 3 t) fullShare ((dats a Vf c).after 3 t)
        ∗ (∃ X, ⌜P t X⌝ ∗ owns (c : Thread nD τ) (stg a 4 t) fullShare X))) := by
  simp only [before0_0, before0_1, before0_2, before0_3, after0_0, after0_1, after0_2, after0_3]
  iintro ⟨HΦ, Ho, ⟨%d0, H0⟩, ⟨%d1, H1⟩, ⟨%d2, H2⟩, ⟨%d3, H3⟩, ⟨%Y, %hY, H4⟩⟩
  iapply (sound_point a Vf hk c t Y _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact H4
  ipureintro
  exact h.step a Vf hk c t Y hY

theorem body_obligation (h : Keeps a Vf hk P) (c : Dev nD) :
    BodyObligationRel (dats a Vf c) (defs₀ (F := F)) Variants.none () Set.univ (fgt a) (Rl a P) := fun t => by
  rw [bigSep_W0, bigSep_W0, defs₀_row]
  exact body_step a Vf hk P h c t _

end Data

/-! ## The run -/

variable (m : (ℓ : Loc nD τ sig) → Buf (Elt F) ℓ) (ρ : Dev nD → PrngReg)

/-- The tables as the host operations leave them, admissible. -/
abbrev adm (hO : ok0 (F := F) (tbl m)) : (pcfg0 (F := F)).Adm := ⟨tbl m, hO⟩

abbrev rdat (hO : ok0 (F := F) (tbl m)) (P : Fin (cfg0 (adm m hO)).N → Vec F S256x2048 .bf16 → Prop) (c : Dev nD) :=
  (dats (adm m hO) (V m) c).toRRel (fgt (adm m hO)) (Rl (adm m hO) P)

set_option backward.isDefEq.respectTransparency.types false in
set_option maxHeartbeats 800000 in
theorem run_main (hO : ok0 (F := F) (tbl m)) (hk : Chk (adm m hO)) (P : Fin (cfg0 (adm m hO)).N → Vec F S256x2048 .bf16 → Prop)
    (hP : Keeps (adm m hO) (V m) hk P) :
    θ_run defs (onTc (τ := τ) (main (F := F))) (s₀ m ρ) (fun r => RDat.FramePost (cfg0 (adm m hO)) (rdat m hO P) (V m) r ∧ r.2.sem = fun _ => 0) :=
  Pipeline.RDat.θ_run_frameP (Q' := _) pcfgs (fun _ => adm m hO) (0 : Fin 1) launch0 defs₀ Variants.none (rdat m hO P) m ρ main
    (hbody := fun c => (body_obligation (adm m hO) (V m) hk P hP c).toRRel) (hshare := fun c => (dats (adm m hO) (V m) c).share_full fun _ => rfl)
    (howed := fun _ _ => rfl) (V := V m) (hmain := hmain m Variants.none) (hA := fun c w => A_eq (adm m hO) (V m) c w) (hpf := V_pre m) (hΦ := fun _ _ => rfl)

end Cert.KernelIdeal.Hand

end
-- ==== Proof.KernelIdeal.Tables.lean ====
/- The prefetched tables, at four group sizes that sum to the number of tokens: the words the host operations leave are
   those of `Proof.Sched`'s numbers. -/
module

public import proofs.«01_k».proof.Proof.KernelIdeal.Entry
public import proofs.«01_k».proof.Proof.Sched
public import Idealize.ShloMosaic.Lib.StableHlo.ReadAt
public import Idealize.ShloMosaic.Lib.Tactic.WordOmega
public import Idealize.ShloMosaic.Lib.Routing.OpsOne
public import Idealize.ShloMosaic.Lib.Routing.OpsSet

@[expose] public section

set_option maxRecDepth 16384

noncomputable section

namespace Cert.KernelIdeal.Hand

open Idealize.ShloMosaic Idealize.ShloMosaic.TcCoe Idealize.ShloMosaic.StableHlo
open Cert.KernelIdeal.Gen Cert.Sched
open Idealize.ShloMosaic.Routing hiding cum
open Idealize.ShloMosaic.WordCmp (cmpi_sgt_ofNat cmpi_sge_ofNat_eq_one_iff)

variable {F : FTy → Type} [FloatOps F]
variable (m : (ℓ : Loc nD τ sig) → Buf (Elt F) ℓ) (c : Dev nD)

theorem i1 {n : ℕ} (x : Fin n) : Idealize.ShloMosaic.ix1 x = ValueIdx.ix1 x := by
  funext y; fin_cases y; rfl
theorem i2 {n k : ℕ} (x : Fin n) (y : Fin k) : Idealize.ShloMosaic.ix2 x y = ValueIdx.ix2 x y := by
  funext z; fin_cases z <;> rfl

/-! ## What each operation leaves, of the buffers it reads -/

theorem v0_eq : (V m c main_v0 : IVec S4 32) = Host.reduceWindow IntOp.addi ![4] ![1] ![3] ![0] (V m c main_arg1 : IVec S4 32) (broadcastInDim S_ ![] bcast_S_S_ (constantI S_ 32 0#32)) reduceWindows_S4_S4_w4s1p3_0 h_S_ := by
  unfold V; after_reads_simp
  all_goals simp only [StableHlo.TRef.toBuf, StableHlo.TRef.ofBuf, cast_cast, cast_eq]
  all_goals rfl
theorem v1_eq : (V m c main_v1 : IVec S4 32) = subi (V m c main_v0) (V m c main_arg1) := by
  unfold V; after_reads_simp

/-- Floor division of a word by 256. -/
def fdivW (x : BitVec 32) : BitVec 32 :=
  Scalar.select (IntOp.andi (IntOp.cmpi .ne (if x = 0 then 0 else if x.msb = true then -1 else 1 : BitVec 32) (if (256#32 : BitVec 32) = 0 then 0 else if (256#32 : BitVec 32).msb = true then -1 else 1)) (IntOp.cmpi .ne (IntOp.remsi .host x 256#32) 0#32))
    (IntOp.subi (IntOp.divsi .host x 256#32) 1#32) (IntOp.divsi .host x 256#32)

theorem fdivW_ofNat (n : ℕ) (h : n < 2 ^ 31) : fdivW (BitVec.ofNat 32 n) = BitVec.ofNat 32 (n / 256) := by
  have hd : IntOp.divsi .host (BitVec.ofNat 32 n) 256#32 = BitVec.ofNat 32 (n / 256) := divsi_word .host h (by omega) (by omega)
  have hr : IntOp.remsi .host (BitVec.ofNat 32 n) 256#32 = BitVec.ofNat 32 (n % 256) := remsi_word .host h (by omega) (by omega)
  unfold fdivW
  rw [hd, hr]
  by_cases h0 : n = 0
  · subst h0; rfl
  · have hx : ¬ BitVec.ofNat 32 n = 0 := fun e => h0 (by
      have := congrArg BitVec.toNat e
      rw [BitVec.toNat_ofNat, Nat.mod_eq_of_lt (by omega)] at this
      exact this)
    have hm : ¬ (BitVec.ofNat 32 n).msb = true := by
      rw [BitVec.msb_eq_decide, BitVec.toNat_ofNat, Nat.mod_eq_of_lt (by omega)]
      simp only [decide_eq_true_eq]; omega
    rw [if_neg hx, if_neg hm]
    have e0 : IntOp.cmpi .ne (1 : BitVec 32) (if (256#32 : BitVec 32) = 0 then 0 else if (256#32 : BitVec 32).msb = true then -1 else 1) = 0#1 := by decide
    rw [e0, show ∀ y : BitVec 1, IntOp.andi 0#1 y = 0#1 from by decide]
    rfl

/-- Floor division of a vector's words by 256, as the host computes it. -/
def fdivV (x : IVec S4 32) : IVec S4 32 :=
  select (andi (cmpi .ne (signi x) (broadcastInDim S4 ![] bcast_S_S4 (signi (id (constantI S_ 32 256#32)))))
      (cmpi .ne (Host.remsi x (broadcastInDim S4 ![] bcast_S_S4 (id (constantI S_ 32 256#32)))) (broadcastInDim S4 ![] bcast_S_S4 (constantI S_ 32 0#32))))
    (subi (Host.divsi x (broadcastInDim S4 ![] bcast_S_S4 (id (constantI S_ 32 256#32)))) (broadcastInDim S4 ![] bcast_S_S4 (constantI S_ 32 1#32)))
    (Host.divsi x (broadcastInDim S4 ![] bcast_S_S4 (id (constantI S_ 32 256#32))))

theorem fdivV_at (x : IVec S4 32) (j : Fin 4) : fdivV x (ValueIdx.ix1 j) = fdivW (x (ValueIdx.ix1 j)) := rfl

theorem v2_eq : (V m c main_v2 : IVec S4 32) = fdivV (V m c main_v1) := by
  unfold fdivV
  unfold V; after_reads_simp
  all_goals simp only [StableHlo.TRef.toBuf, StableHlo.TRef.ofBuf, cast_cast, cast_eq]
  all_goals rfl
theorem v7_eq : (V m c main_v7 : IVec S4 32) = fdivV (subi (V m c main_v0) (broadcastInDim S4 ![] bcast_S_S4 (constantI S_ 32 1#32))) := by
  unfold fdivV
  unfold V; after_reads_simp
  all_goals simp only [StableHlo.TRef.toBuf, StableHlo.TRef.ofBuf, cast_cast, cast_eq]
  all_goals rfl
theorem v11_eq : (V m c main_v11 : IVec S4 32)
    = select (cmpi .sgt (V m c main_arg1 : IVec S4 32) (broadcastInDim S4 ![] bcast_S_S4 (constantI S_ 32 0#32)))
        (addi (subi (V m c main_v7) (V m c main_v2)) (broadcastInDim S4 ![] bcast_S_S4 (constantI S_ 32 1#32)) : IVec S4 32)
        (broadcastInDim S4 ![] bcast_S_S4 (id (constantI S_ 32 0#32))) := by
  unfold V; after_reads_simp
  all_goals simp only [StableHlo.TRef.toBuf, StableHlo.TRef.ofBuf, cast_cast, cast_eq]
  all_goals rfl
theorem v12_eq : (V m c main_v12 : IVec S4 32) = Host.reduceWindow IntOp.addi ![4] ![1] ![3] ![0] (V m c main_v11 : IVec S4 32) (broadcastInDim S_ ![] bcast_S_S_ (constantI S_ 32 0#32)) reduceWindows_S4_S4_w4s1p3_0 h_S_ := by
  unfold V; after_reads_simp
  all_goals simp only [StableHlo.TRef.toBuf, StableHlo.TRef.ofBuf, cast_cast, cast_eq]
  all_goals rfl
theorem v18_at (t : Fin 259) : V m c main_v18 (ValueIdx.ix1 t) = IntOp.minsi (BitVec.ofNat 32 t.val) (IntOp.subi (V m c main_v12 (ValueIdx.ix1 (3 : Fin 4))) 1#32) := by
  simp only [← i1, ← i2]
  unfold V; after_reads_at
  all_goals rfl
theorem v23_at (t : Fin 259) (e : Fin 4) : V m c main_v23 (ValueIdx.ix2 t e) = IntOp.cmpi .sge (V m c main_v18 (ValueIdx.ix1 t)) (V m c main_v12 (ValueIdx.ix1 e)) := by
  simp only [← i1, ← i2]
  unfold V; after_reads_at
  all_goals rfl
theorem v25_eq : (V m c main_v25 : IVec S259 32) = Host.reduce IntOp.addi (extui 32 (V m c main_v23 : IVec S259x4 1) natLt_1_32) (constantI S_ 32 0#32) reducesTo_S259x4_S259_d1 h_S_ := by
  unfold V; after_reads_simp
theorem v31_at (t : Fin 259) : V m c main_v31 (ValueIdx.ix2 t (0 : Fin 1))
    = Scalar.select (IntOp.cmpi .slt (V m c main_v25 (ValueIdx.ix1 t)) 0#32) (IntOp.addi (V m c main_v25 (ValueIdx.ix1 t)) 4#32) (V m c main_v25 (ValueIdx.ix1 t)) := by
  simp only [← i1, ← i2]
  unfold V; after_reads_at
  all_goals rfl
theorem v40_eq : (V m c main_v40 : IVec S259x1 32) = V m c main_v31 := by
  unfold V; after_reads_simp
theorem v42_eq : (V m c main_v42 : IVec S259 32)
    = subi (addi (Host.gather gather_S4_S259x1_S259_n_0_n_n_0_1_1 (V m c main_v2 : IVec S4 32) (V m c main_v31 : IVec S259x1 32)) (V m c main_v18))
        (Host.gather gather_S4_S259x1_S259_n_0_n_n_0_1_1 (subi (V m c main_v12) (V m c main_v11) : IVec S4 32) (V m c main_v31 : IVec S259x1 32)) := by
  unfold V; after_reads_simp
theorem v43_eq : V m c main_v43 (ValueIdx.ix1 (0 : Fin 1)) = V m c main_v12 (ValueIdx.ix1 (3 : Fin 4)) := by
  simp only [← i1, ← i2]
  unfold V; after_reads_at
  all_goals rfl

/-! ## Their words, at group sizes `a`, `b`, `k`, `d` -/

section Words

variable (a b k d : ℕ) (hs : a + b + k + d = 65536) (hg : ∀ e : Fin 4, V m c main_arg1 (ValueIdx.ix1 e) = BitVec.ofNat 32 (sz a b k d e.val))
include hs hg

theorem v0_at (e : Fin 4) : V m c main_v0 (ValueIdx.ix1 e) = BitVec.ofNat 32 (en a b k d e.val) := by
  rw [v0_eq]
  refine (cumsum1 (N := 4) (Nm1 := 3) rfl _ (sz a b k d) hg _ rfl _ _ e).trans (congrArg _ ?_)
  fin_cases e <;> simp [List.range_succ, en, sz] <;> omega

theorem v1_at (e : Fin 4) : V m c main_v1 (ValueIdx.ix1 e) = BitVec.ofNat 32 (st a b k e.val) := by
  rw [v1_eq]
  show IntOp.subi (V m c main_v0 (ValueIdx.ix1 e)) (V m c main_arg1 (ValueIdx.ix1 e)) = _
  rw [v0_at m c a b k d hs hg, hg]
  have h := st_add_sz a b k d e.val
  have h' := en_le a b k d hs e.val
  show BitVec.ofNat 32 _ - BitVec.ofNat 32 _ = _
  apply BitVec.eq_of_toNat_eq
  simp only [BitVec.toNat_sub, BitVec.toNat_ofNat]
  omega

theorem v2_at (e : Fin 4) : V m c main_v2 (ValueIdx.ix1 e) = BitVec.ofNat 32 (st a b k e.val / 256) := by
  have h := st_add_sz a b k d e.val
  have h' := en_le a b k d hs e.val
  rw [v2_eq, fdivV_at, v1_at m c a b k d hs hg, fdivW_ofNat _ (by omega)]

theorem v7_at (e : Fin 4) (h0 : 0 < sz a b k d e.val) : V m c main_v7 (ValueIdx.ix1 e) = BitVec.ofNat 32 ((en a b k d e.val - 1) / 256) := by
  have h := st_add_sz a b k d e.val
  have h' := en_le a b k d hs e.val
  rw [v7_eq, fdivV_at]
  show fdivW (IntOp.subi (V m c main_v0 (ValueIdx.ix1 e)) 1#32) = _
  rw [v0_at m c a b k d hs hg]
  have e1 : IntOp.subi (BitVec.ofNat 32 (en a b k d e.val)) 1#32 = BitVec.ofNat 32 (en a b k d e.val - 1) := by
    show BitVec.ofNat 32 _ - BitVec.ofNat 32 1 = _
    apply BitVec.eq_of_toNat_eq
    simp only [BitVec.toNat_sub, BitVec.toNat_ofNat]
    omega
  rw [e1, fdivW_ofNat _ (by omega)]

theorem v11_at (e : Fin 4) : V m c main_v11 (ValueIdx.ix1 e) = BitVec.ofNat 32 (cnt a b k d e.val) := by
  have h := st_add_sz a b k d e.val
  have h' := en_le a b k d hs e.val
  rw [v11_eq]
  show Scalar.select (IntOp.cmpi .sgt (V m c main_arg1 (ValueIdx.ix1 e)) 0#32) (IntOp.addi (IntOp.subi (V m c main_v7 (ValueIdx.ix1 e)) (V m c main_v2 (ValueIdx.ix1 e))) 1#32) 0#32 = _
  rw [hg, show (0#32 : BitVec 32) = BitVec.ofNat 32 0 from rfl, cmpi_sgt_ofNat (by omega) (by omega)]
  by_cases h0 : 0 < sz a b k d e.val
  · rw [v7_at m c a b k d hs hg e h0, v2_at m c a b k d hs hg]
    rw [decide_eq_true h0]
    unfold cnt
    rw [if_pos h0]
    show BitVec.ofNat 32 _ - BitVec.ofNat 32 _ + BitVec.ofNat 32 1 = _
    apply BitVec.eq_of_toNat_eq
    simp only [BitVec.toNat_sub, BitVec.toNat_add, BitVec.toNat_ofNat]
    omega
  · rw [decide_eq_false h0]
    unfold cnt
    rw [if_neg h0]
    rfl

theorem v12_at (e : Fin 4) : V m c main_v12 (ValueIdx.ix1 e) = BitVec.ofNat 32 (cum a b k d e.val) := by
  rw [v12_eq]
  refine (cumsum1 (N := 4) (Nm1 := 3) rfl _ (cnt a b k d) (v11_at m c a b k d hs hg) _ rfl _ _ e).trans (congrArg _ ?_)
  fin_cases e <;> simp [List.range_succ, cum, Sched.pre] <;> omega

/-- The number of work items. -/
theorem v43_at : V m c main_v43 (ValueIdx.ix1 (0 : Fin 1)) = BitVec.ofNat 32 (num a b k d) := by
  rw [v43_eq]
  exact v12_at m c a b k d hs hg 3

theorem w18_at (t : Fin 259) : V m c main_v18 (ValueIdx.ix1 t) = BitVec.ofNat 32 (lv a b k d t.val) := by
  have h := num_pos a b k d hs
  have h' := num_le a b k d hs
  have ht := t.isLt
  rw [v18_at, v12_at m c a b k d hs hg]
  have e1 : IntOp.subi (BitVec.ofNat 32 (cum a b k d (3 : Fin 4).val)) 1#32 = BitVec.ofNat 32 (num a b k d - 1) := by
    show BitVec.ofNat 32 (num a b k d) - BitVec.ofNat 32 1 = _
    apply BitVec.eq_of_toNat_eq
    simp only [BitVec.toNat_sub, BitVec.toNat_ofNat]
    omega
  rw [e1]
  unfold IntOp.minsi lv
  have e2 : ∀ n : ℕ, n < 2000 → (BitVec.ofNat 32 n).toInt = n := fun n hn => by
    rw [BitVec.toInt_eq_toNat_cond, BitVec.toNat_ofNat]; split_ifs <;> omega
  simp only [BitVec.slt, BitVec.sle, e2 _ (show t.val < 2000 by omega), e2 _ (show num a b k d - 1 < 2000 by omega), decide_eq_true_eq]
  split_ifs <;> congr 1 <;> omega

/-- Grid point `t`'s expert. -/
theorem v25_at (t : Fin 259) : V m c main_v25 (ValueIdx.ix1 t) = BitVec.ofNat 32 (ex a b k d t.val) := by
  have h' := num_le a b k d hs
  have hl := lv_lt a b k d hs t.val
  rw [v25_eq]
  refine (reduce_count (n := 259) (m := 4) (by omega) _ _ _ _ t (fun e => cum a b k d e ≤ lv a b k d t.val) fun e => ?_).trans (congrArg _ ?_)
  · have hc := cum_le_num a b k d e.val e.isLt
    rw [v23_at, w18_at m c a b k d hs hg, v12_at m c a b k d hs hg, cmpi_sge_ofNat_eq_one_iff (by omega) (by omega)]
  · simp only [Nat.count_succ, Nat.count_zero, ex, Nat.zero_add]

theorem w31_at (t : Fin 259) : V m c main_v31 (ValueIdx.ix2 t (0 : Fin 1)) = BitVec.ofNat 32 (ex a b k d t.val) := by
  obtain ⟨h4, -⟩ := ex_spec a b k d hs t.val
  rw [v31_at, v25_at m c a b k d hs hg]
  generalize ex a b k d t.val = e at h4
  interval_cases e <;> rfl

/-- Grid point `t`'s tile. -/
theorem v42_at (t : Fin 259) : V m c main_v42 (ValueIdx.ix1 t) = BitVec.ofNat 32 (tl a b k d t.val) := by
  obtain ⟨h4, h5, h6⟩ := ex_spec a b k d hs t.val
  obtain ⟨-, h7, -, -, h8⟩ := tl_spec a b k d hs t.val
  have hc := cum_le_num a b k d _ h4
  have h' := num_le a b k d hs
  have hg1 : ∀ x : IVec S4 32, Host.gather gather_S4_S259x1_S259_n_0_n_n_0_1_1 x (V m c main_v31 : IVec S259x1 32) (ValueIdx.ix1 t) = x (ValueIdx.ix1 (⟨ex a b k d t.val, h4⟩ : Fin 4)) := fun x =>
    gather_take1 (N := 4) (n := 259) gather_S4_S259x1_S259_n_0_n_n_0_1_1 rfl rfl rfl rfl x _ t ⟨ex a b k d t.val, h4⟩ (w31_at m c a b k d hs hg t) (by omega)
  rw [v42_eq]
  show IntOp.subi (IntOp.addi (Host.gather _ _ _ (ValueIdx.ix1 t)) (V m c main_v18 (ValueIdx.ix1 t))) (Host.gather _ _ _ (ValueIdx.ix1 t)) = _
  rw [hg1, hg1, w18_at m c a b k d hs hg, v2_at m c a b k d hs hg]
  show IntOp.subi (IntOp.addi _ _) (IntOp.subi (V m c main_v12 (ValueIdx.ix1 _)) (V m c main_v11 (ValueIdx.ix1 _))) = _
  rw [v12_at m c a b k d hs hg, v11_at m c a b k d hs hg]
  show BitVec.ofNat 32 _ + BitVec.ofNat 32 _ - (BitVec.ofNat 32 _ - BitVec.ofNat 32 _) = _
  unfold cum at *
  apply BitVec.eq_of_toNat_eq
  simp only [BitVec.toNat_sub, BitVec.toNat_add, BitVec.toNat_ofNat]
  omega

end Words

end Cert.KernelIdeal.Hand
-- ==== Proof.KernelIdeal.Frame.lean ====
/- The kernel's frame at four group sizes that sum to the number of tokens: the tables' words keep every block inside its
   array, the program runs to its end, and the argument arrays end as launched. -/
module

public import proofs.«01_k».proof.Proof.KernelIdeal.Run
public import proofs.«01_k».proof.Proof.KernelIdeal.Tables
public import Idealize.ShloMosaic.Lib.PairWhole

@[expose] public section

set_option maxRecDepth 16384

noncomputable section

namespace Cert.KernelIdeal.Hand

open Idealize.ShloMosaic Idealize.ShloMosaic.TcCoe
open Idealize.SL.Sem
open Idealize.ShloMosaic.Pipeline (RDat)
open Cert.KernelIdeal.Gen Cert.Sched

variable {F : FTy → Type} [FloatOps F]

/-- The one element of a unit rectangle of a table is the element at its offset. -/
theorem emb_first (off : Fin 1 → ℕ) (h : ∀ a, off a + S1.size a ≤ S259.size a) (v : Fin 259) (hv : off 0 = v.val)
    (h1 : 0 < (Rect.unit (s := S259) off S1.size h).shape.numel) :
    (Rect.unit (s := S259) off S1.size h).emb (Shape.Idx.first h1) = ValueIdx.ix1 v := by
  funext a
  have ha : a = (0 : Fin 1) := Subsingleton.elim (α := Fin 1) _ _
  subst ha
  refine Fin.ext ?_
  show off 0 + 1 * 0 = v.val
  omega

variable (m : (ℓ : Loc nD τ sig) → Buf (Elt F) ℓ)
variable (a b k d : ℕ) (hs : a + b + k + d = 65536)
variable (hg : ∀ (c : Dev nD) (e : Fin 4), V m c main_arg1 (ValueIdx.ix1 e) = BitVec.ofNat 32 (sz a b k d e.val))

theorem coord_lt (i : grid0.Coords) : (i 0).val < 259 := (i 0).isLt

theorem coord_word (i : grid0.Coords) : (BitVec.ofNat 32 (i 0).val).toNat = (i 0).val := by
  have := coord_lt i
  rw [BitVec.toNat_ofNat, Nat.mod_eq_of_lt (by omega)]

include hs hg

/-- The expert table's word at a grid point. -/
theorem tbl0_at (i : grid0.Coords) (off : Fin 1 → ℕ) (h : ∀ a, off a + S1.size a ≤ S259.size a) (hv : off 0 = (i 0).val) :
    (tbl m).at 0 (Rect.unit (s := S259) off S1.size h) numel1_S1 = BitVec.ofNat 32 (ex a b k d (i 0).val) :=
  (congrArg (V m 0 main_v25) (emb_first off h ⟨(i 0).val, coord_lt i⟩ hv _)).trans (v25_at m 0 a b k d hs (hg 0) _)

/-- The tile table's word at a grid point. -/
theorem tbl1_at (i : grid0.Coords) (off : Fin 1 → ℕ) (h : ∀ a, off a + S1.size a ≤ S259.size a) (hv : off 0 = (i 0).val) :
    (tbl m).at 1 (Rect.unit (s := S259) off S1.size h) numel1_S1 = BitVec.ofNat 32 (tl a b k d (i 0).val) :=
  (congrArg (V m 0 main_v42) (emb_first off h ⟨(i 0).val, coord_lt i⟩ hv _)).trans (v42_at m 0 a b k d hs (hg 0) _)

theorem tile_eq (i : grid0.Coords) :
    ((tbl m).at 1 (Rect.unit (s := S259) ![(BitVec.ofNat 32 (i 0).val).toNat] S1.size (k0_off1_inb i)) numel1_S1 : BitVec 32).toNat
      = tl a b k d (i 0).val := by
  obtain ⟨-, -, -, -, h8⟩ := tl_spec a b k d hs (i 0).val
  refine (congrArg BitVec.toNat (tbl1_at m a b k d hs hg i _ _ (coord_word i))).trans ?_
  rw [BitVec.toNat_ofNat, Nat.mod_eq_of_lt (by omega)]

theorem expert_eq (i : grid0.Coords) :
    ((tbl m).at 0 (Rect.unit (s := S259) ![(BitVec.ofNat 32 (i 0).val).toNat] S1.size (k0_off1_inb i)) numel1_S1 : BitVec 32).toNat
      = ex a b k d (i 0).val := by
  obtain ⟨h4, -, -⟩ := ex_spec a b k d hs (i 0).val
  refine (congrArg BitVec.toNat (tbl0_at m a b k d hs hg i _ _ (coord_word i))).trans ?_
  rw [BitVec.toNat_ofNat, Nat.mod_eq_of_lt (by omega)]

theorem transform_1_eq (i : grid0.Coords) : cc0_transform_1 k0_off1_inb numel1_S1 (tbl m) i = ![tl a b k d (i 0).val, 0] := by
  refine Eq.trans ?_ (congrArg (fun x : ℕ => ![x, 0]) (tile_eq m a b k d hs hg i)); rfl

theorem transform_2_eq (i : grid0.Coords) : cc0_transform_2 k0_off1_inb numel1_S1 (tbl m) i = ![ex a b k d (i 0).val, 0, 0] := by
  refine Eq.trans ?_ (congrArg (fun x : ℕ => ![x, 0, 0]) (expert_eq m a b k d hs hg i)); rfl

theorem transform_3_eq (i : grid0.Coords) : cc0_transform_3 k0_off1_inb numel1_S1 (tbl m) i = ![ex a b k d (i 0).val, 0, 0] := by
  refine Eq.trans ?_ (congrArg (fun x : ℕ => ![x, 0, 0]) (expert_eq m a b k d hs hg i)); rfl

theorem transform_4_eq (i : grid0.Coords) : cc0_transform_4 k0_off1_inb numel1_S1 (tbl m) i = ![tl a b k d (i 0).val, 0] := by
  refine Eq.trans ?_ (congrArg (fun x : ℕ => ![x, 0]) (tile_eq m a b k d hs hg i)); rfl

/-- Every block the tables name lies inside its array and starts and ends at whole words. -/
theorem ok_tbl : ok0 (F := F) (tbl m) := by
  refine ⟨fun i => ?_, fun i => ?_, fun i => ?_, fun i => ?_⟩
  · obtain ⟨-, -, -, -, h8⟩ := tl_spec a b k d hs (i 0).val
    rw [transform_1_eq m a b k d hs hg i]
    refine ⟨fun x => ?_, .inr (Rect.packedRows_of_rowAxis _ _ (Nat.le_refl 2) ⟨tl a b k d (i 0).val * 128, ?_⟩ ⟨128, rfl⟩ rfl).wholeWords⟩
    · fin_cases x
      · show (tl a b k d (i 0).val + 1) * 256 ≤ 65536
        omega
      · show (0 + 1) * 6144 ≤ 6144
        omega
    · show tl a b k d (i 0).val * 256 = 2 * (tl a b k d (i 0).val * 128)
      omega
  · obtain ⟨h4, -, -⟩ := ex_spec a b k d hs (i 0).val
    rw [transform_2_eq m a b k d hs hg i]
    refine ⟨fun x => ?_, .inr (Rect.packedRows_of_rowAxis _ _ (by decide) ⟨0, rfl⟩ ⟨1536, rfl⟩ rfl).wholeWords⟩
    fin_cases x
    · show (ex a b k d (i 0).val + 1) * 1 ≤ 4
      omega
    · show (0 + 1) * 6144 ≤ 6144
      omega
    · show (0 + 1) * 4096 ≤ 4096
      omega
  · obtain ⟨h4, -, -⟩ := ex_spec a b k d hs (i 0).val
    rw [transform_3_eq m a b k d hs hg i]
    refine ⟨fun x => ?_, .inl rfl⟩
    fin_cases x
    · show (ex a b k d (i 0).val + 1) * 1 ≤ 4
      omega
    · exact Nat.le_refl 1
    · show (0 + 1) * 4096 ≤ 4096
      omega
  · obtain ⟨-, -, -, -, h8⟩ := tl_spec a b k d hs (i 0).val
    rw [transform_4_eq m a b k d hs hg i]
    refine ⟨fun x => ?_, .inr (Rect.packedRows_of_rowAxis _ _ (Nat.le_refl 2) ⟨tl a b k d (i 0).val * 128, ?_⟩ ⟨128, rfl⟩ rfl).wholeWords⟩
    · fin_cases x
      · show (tl a b k d (i 0).val + 1) * 256 ≤ 65536
        omega
      · show (0 + 1) * 2048 ≤ 2048
        omega
    · show tl a b k d (i 0).val * 256 = 2 * (tl a b k d (i 0).val * 128)
      omega

/-- The expert the body reads at a point is one of the four. -/
theorem wE_eq (hO : ok0 (F := F) (tbl m)) (c : Dev nD) (t : Fin (cfg0 (adm m hO)).N) :
    wE (adm m hO) c t = BitVec.ofNat 32 (ex a b k d (grid0.coords t 0).val) :=
  tbl0_at m a b k d hs hg (grid0.coords t) _ (k0_off2_inb (grid0.coords t)) (coord_word (grid0.coords t))

theorem chk_tbl (hO : ok0 (F := F) (tbl m)) : Chk (adm m hO) := fun c t _ x => by
  obtain ⟨h4, -, -⟩ := ex_spec a b k d hs (grid0.coords t 0).val
  rw [wE_eq m a b k d hs hg hO c t]
  fin_cases x
  show (BitVec.ofNat 32 (ex a b k d (grid0.coords t 0).val)).toNat + 1 ≤ 4
  rw [BitVec.toNat_ofNat, Nat.mod_eq_of_lt (by omega)]
  omega

omit hs hg in
theorem arr_ne_arg1 : ∀ w, (spec0 w).arr.view.ref ≠ main_arg1 := by decide
omit hs hg in
theorem arr_ne_arg4 : ∀ w, (spec0 w).arr.view.ref ≠ main_arg4 := by decide

omit hs hg in
/-- A buffer that is no window's array ends as the grid found it. -/
theorem post_rest (hO : ok0 (F := F) (tbl m)) (P : Fin (cfg0 (adm m hO)).N → Vec F S256x2048 .bf16 → Prop)
    (r : PUnit × MemSt nD τ sig (Elt F)) (h : RDat.FramePost (cfg0 (adm m hO)) (rdat m hO P) (V m) r) (c : Dev nD) (b : Ref sig .tc)
    (hb : b ∈ Pipeline.restRefs sig spec0) : r.2.mem ((c.tc : Thread nD τ).loc b) = V m c b :=
  (h c).2 b hb

omit hs hg in
/-- A fetched window's array ends as the grid found it. -/
theorem post_in (hO : ok0 (F := F) (tbl m)) (P : Fin (cfg0 (adm m hO)).N → Vec F S256x2048 .bf16 → Prop)
    (r : PUnit × MemSt nD τ sig (Elt F)) (h : RDat.FramePost (cfg0 (adm m hO)) (rdat m hO P) (V m) r) (c : Dev nD) (w : Fin (cfg0 (adm m hO)).W)
    (hw : ((cfg0 (adm m hO)).win w).isOut = false) :
    r.2.mem ((c.tc : Thread nD τ).loc (Pipeline.arrRef spec0 w)) = V m c (Pipeline.arrRef spec0 w) :=
  (h.arr_in c w hw).trans (A_eq (adm m hO) (V m) c w)

/-- The program runs to its end, its argument arrays unchanged and every semaphore counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hO := ok_tbl m a b k d hs hg
  have hk := chk_tbl m a b k d hs hg hO
  refine (θ_run defs _ _).mono (fun r hr => ⟨fun c => ⟨?_, ?_, ?_, ?_, ?_⟩, hr.2⟩)
    (run_main m ρ hO hk (fun _ _ => True) ⟨fun _ _ _ _ => trivial, fun _ _ _ _ _ => trivial⟩)
  · exact (post_in m hO _ r hr.1 c 1 rfl).trans (V_main_arg0 m c)
  · exact (post_rest m hO _ r hr.1 c main_arg1 (Pipeline.mem_restRefs_of _ rfl arr_ne_arg1)).trans (V_main_arg1 m c)
  · exact (post_in m hO _ r hr.1 c 0 rfl).trans (V_main_arg2 m c)
  · exact (post_in m hO _ r hr.1 c 2 rfl).trans (V_main_arg3 m c)
  · exact (post_rest m hO _ r hr.1 c main_arg4 (Pipeline.mem_restRefs_of _ rfl arr_ne_arg4)).trans (V_main_arg4 m c)

end Cert.KernelIdeal.Hand

end
-- ==== Proof.Value.Read.lean ====
/- What the kernel's body reads at a grid point, over the arguments: the words of the tables and the input blocks. -/
module

public import proofs.«01_k».proof.Proof.KernelIdeal.Frame
public import Idealize.ShloMosaic.Lib.Pipeline.ValueKit

@[expose] public section

set_option maxRecDepth 16384

noncomputable section

namespace Cert.Value

open Idealize.ShloMosaic Idealize.ShloMosaic.TcCoe Idealize.SL.Sem
open Idealize.ShloMosaic.WordCmp
open Cert.KernelIdeal Cert.KernelIdeal.Gen Cert.KernelIdeal.Hand Cert.Sched

/-- The one element of a unit rectangle of a four-element array is the element at its offset. -/
theorem emb_first4 (off : Fin 1 → ℕ) (h : ∀ a, off a + S1.size a ≤ S4.size a) (v : Fin 4) (hv : off 0 = v.val)
    (h1 : 0 < (Rect.unit (s := S4) off S1.size h).shape.numel) :
    (Rect.unit (s := S4) off S1.size h).emb (Shape.Idx.first h1) = ValueIdx.ix1 v := by
  funext a
  have ha : a = (0 : Fin 1) := Subsingleton.elim (α := Fin 1) _ _
  subst ha
  refine Fin.ext ?_
  show off 0 + 1 * 0 = v.val
  omega

/-- The same for a one-element array. -/
theorem emb_first1 (off : Fin 1 → ℕ) (h : ∀ a, off a + S1.size a ≤ S1.size a) (hv : off 0 = 0)
    (h1 : 0 < (Rect.unit (s := S1) off S1.size h).shape.numel) :
    (Rect.unit (s := S1) off S1.size h).emb (Shape.Idx.first h1) = ValueIdx.ix1 (0 : Fin 1) := by
  funext a
  have ha : a = (0 : Fin 1) := Subsingleton.elim (α := Fin 1) _ _
  subst ha
  refine Fin.ext ?_
  show off 0 + 1 * 0 = 0
  omega

/-- A grid point's coordinate is its number. -/
theorem coord_val : ∀ t : Fin grid0.N, (grid0.coords t 0).val = t.val := by decide +kernel

variable (m : (ℓ : Loc nD τ sig) → Buf (Elt Ideal) ℓ)

/-- The weights' scales as the grid finds them are the argument's. -/
theorem v44_at (c : Dev nD) (e : Fin 4) (q : Fin 4096) :
    V m c main_v44 (ValueIdx.ix3 e (0 : Fin 1) q) = m ((c : Thread nD τ).loc main_arg4) (ix2 e q) := by
  have h3 : ValueIdx.ix3 e (0 : Fin 1) q = ix3 e (0 : Fin 1) q := by funext a; fin_cases a <;> rfl
  rw [h3]
  unfold V; after_reads_at
  all_goals rfl

variable (a b k d : ℕ) (hs : a + b + k + d = 65536)
variable (hg : ∀ (c : Dev nD) (e : Fin 4), V m c main_arg1 (ValueIdx.ix1 e) = BitVec.ofNat 32 (sz a b k d e.val))
include hs hg

theorem wN_eq (hO : ok0 (F := Ideal) (tbl m)) (c : Dev nD) : wN (adm m hO) c = BitVec.ofNat 32 (num a b k d) :=
  (congrArg (V m 0 main_v43) (emb_first1 _ _ rfl _)).trans (v43_at m 0 a b k d hs (hg 0))

theorem wT_eq (hO : ok0 (F := Ideal) (tbl m)) (c : Dev nD) (t : Fin (cfg0 (adm m hO)).N) :
    wT (adm m hO) c t = BitVec.ofNat 32 (tl a b k d t.val) :=
  (tbl1_at m a b k d hs hg (grid0.coords t) _ (k0_off4_inb (grid0.coords t)) (coord_word (grid0.coords t))).trans
    (congrArg (fun n => BitVec.ofNat 32 (tl a b k d n)) (coord_val t))

/-- A point does work when its number is below the work items'. -/
theorem live_iff (hO : ok0 (F := Ideal) (tbl m)) (c : Dev nD) (t : Fin (cfg0 (adm m hO)).N) :
    Live (adm m hO) c t ↔ t.val < num a b k d := by
  have hn := num_le a b k d hs
  have ht : t.val < 259 := t.isLt
  unfold Live
  rw [wN_eq m a b k d hs hg hO c]
  have e : k0_cond1 (grid0.coords t) (BitVec.ofNat 32 (num a b k d)) = IntOp.cmpi .slt (BitVec.ofNat 32 t.val) (BitVec.ofNat 32 (num a b k d)) := by
    rw [← coord_val t]
    unfold k0_cond1
    show Scalar.cmpi .ne (Scalar.extui (Scalar.cmpi .slt _ _)) 0#32 = Scalar.cmpi .slt _ _
    generalize (Scalar.cmpi .slt (BitVec.ofNat 32 (grid0.coords t 0).val) (BitVec.ofNat 32 (num a b k d)) : BitVec 1) = x
    revert x; decide
  rw [e, cmpi_slt_ofNat_eq_one_iff (by omega) (by omega)]

/-- The offset of an expert's word in its table. -/
theorem off_eq (hO : ok0 (F := Ideal) (tbl m)) (c : Dev nD) (t : Fin (cfg0 (adm m hO)).N) :
    k0_off3 (wE (adm m hO) c t) 0 = ex a b k d t.val := by
  obtain ⟨h4, -, -⟩ := ex_spec a b k d hs t.val
  rw [wE_eq m a b k d hs hg hO c t, coord_val t]
  show (BitVec.ofNat 32 (ex a b k d t.val)).toNat = _
  rw [BitVec.toNat_ofNat, Nat.mod_eq_of_lt (by omega)]

variable (hO : ok0 (F := Ideal) (tbl m)) (hk : Chk (adm m hO)) (c : Dev nD) (t : Fin (cfg0 (adm m hO)).N) (e : Fin 4) (he : ex a b k d t.val = e.val)
include he

theorem wS_eq (hl : Live (adm m hO) c t) : wS (adm m hO) hk c t hl = BitVec.ofNat 32 (st a b k e) :=
  (congrArg (V m 0 main_v1) (emb_first4 _ _ e ((off_eq m a b k d hs hg hO c t).trans he) _)).trans (v1_at m 0 a b k d hs (hg 0) e)

theorem wD_eq (hl : Live (adm m hO) c t) : wD (adm m hO) hk c t hl = BitVec.ofNat 32 (en a b k d e) :=
  (congrArg (V m 0 main_v0) (emb_first4 _ _ e ((off_eq m a b k d hs hg hO c t).trans he) _)).trans (v0_at m 0 a b k d hs (hg 0) e)

omit hs hg he in
theorem iblk0_eq : (iblk (adm m hO) (V m) c 0 t : Vec Ideal S4 .f32) = m ((c : Thread nD τ).loc main_arg2) := by
  funext y
  refine (congrArg (V m c main_arg2) ?_).trans (congrFun (V_main_arg2 m c) y)
  funext x
  refine Fin.ext ?_
  have hx : x = (0 : Fin 1) := Subsingleton.elim (α := Fin 1) _ _
  subst hx
  refine (?_ : 0 * 4 + 1 * (show Fin 4 from y (0 : Fin 1)).val = (show Fin 4 from y (0 : Fin 1)).val)
  omega

theorem wX_eq (hl : Live (adm m hO) c t) : wX (adm m hO) (V m) hk c t hl = m ((c : Thread nD τ).loc main_arg2) (ix1 e) := by
  unfold wX
  rw [iblk0_eq]
  refine congrArg (m ((c : Thread nD τ).loc main_arg2)) ?_
  refine (emb_first4 _ _ e ((off_eq m a b k d hs hg hO c t).trans he) _).trans ?_
  funext x; rfl

end Cert.Value
-- ==== Proof.Value.Blocks.lean ====
/- The input blocks of the kernel at a grid point, over the arguments. -/
module

public import proofs.«01_k».proof.Proof.Value.Read

@[expose] public section

set_option maxRecDepth 16384

noncomputable section

namespace Cert.Value

open Idealize.ShloMosaic Idealize.ShloMosaic.TcCoe Idealize.SL.Sem
open Idealize.ShloMosaic.Pipeline (Window)
open Cert.KernelIdeal Cert.KernelIdeal.Gen Cert.KernelIdeal.Hand Cert.Sched

variable (m : (ℓ : Loc nD τ sig) → Buf (Elt Ideal) ℓ) (a b k d : ℕ) (hs : a + b + k + d = 65536)
variable (hg : ∀ (c : Dev nD) (e : Fin 4), V m c main_arg1 (ValueIdx.ix1 e) = BitVec.ofNat 32 (sz a b k d e.val))
variable (hO : ok0 (F := Ideal) (tbl m)) (c : Dev nD) (t : Fin (cfg0 (adm m hO)).N)

include hs hg

/-! The windows' block indices. -/

theorem index1 : ((cfg0 (adm m hO)).win 1).index t = ![tl a b k d t.val, 0] :=
  (transform_1_eq m a b k d hs hg (grid0.coords t)).trans (congrArg (fun n => ![tl a b k d n, 0]) (coord_val t))
theorem index2 : ((cfg0 (adm m hO)).win 2).index t = ![ex a b k d t.val, 0, 0] :=
  (transform_2_eq m a b k d hs hg (grid0.coords t)).trans (congrArg (fun n => ![ex a b k d n, 0, 0]) (coord_val t))
theorem index3 : ((cfg0 (adm m hO)).win 3).index t = ![ex a b k d t.val, 0, 0] :=
  (transform_3_eq m a b k d hs hg (grid0.coords t)).trans (congrArg (fun n => ![ex a b k d n, 0, 0]) (coord_val t))
theorem index4 : ((cfg0 (adm m hO)).win 4).index t = ![tl a b k d t.val, 0] :=
  (transform_4_eq m a b k d hs hg (grid0.coords t)).trans (congrArg (fun n => ![tl a b k d n, 0]) (coord_val t))

/-! Where a block's element sits in its array. -/

theorem emb1_val (y) (x : Fin 2) :
    ((((cfg0 (adm m hO)).win 1).rect t).emb y x : ℕ) = (![tl a b k d t.val, 0] : Fin 2 → ℕ) x * ((cfg0 (adm m hO)).win 1).size x + (y x : ℕ) :=
  (Window.rect_emb_val ((cfg0 (adm m hO)).win 1) t y x).trans (congrArg (fun f : Fin 2 → ℕ => f x * ((cfg0 (adm m hO)).win 1).size x + (y x : ℕ)) (index1 m a b k d hs hg hO t))

theorem emb2_val (y) (x : Fin 3) :
    ((((cfg0 (adm m hO)).win 2).rect t).emb y x : ℕ) = (![ex a b k d t.val, 0, 0] : Fin 3 → ℕ) x * ((cfg0 (adm m hO)).win 2).size x + (y x : ℕ) :=
  (Window.rect_emb_val ((cfg0 (adm m hO)).win 2) t y x).trans (congrArg (fun f : Fin 3 → ℕ => f x * ((cfg0 (adm m hO)).win 2).size x + (y x : ℕ)) (index2 m a b k d hs hg hO t))

theorem emb3_val (y) (x : Fin 3) :
    ((((cfg0 (adm m hO)).win 3).rect t).emb y x : ℕ) = (![ex a b k d t.val, 0, 0] : Fin 3 → ℕ) x * ((cfg0 (adm m hO)).win 3).size x + (y x : ℕ) :=
  (Window.rect_emb_val ((cfg0 (adm m hO)).win 3) t y x).trans (congrArg (fun f : Fin 3 → ℕ => f x * ((cfg0 (adm m hO)).win 3).size x + (y x : ℕ)) (index3 m a b k d hs hg hO t))

theorem emb4_val (y) (x : Fin 2) :
    ((((cfg0 (adm m hO)).win 4).rect t).emb y x : ℕ) = (![tl a b k d t.val, 0] : Fin 2 → ℕ) x * ((cfg0 (adm m hO)).win 4).size x + (y x : ℕ) :=
  (Window.rect_emb_val ((cfg0 (adm m hO)).win 4) t y x).trans (congrArg (fun f : Fin 2 → ℕ => f x * ((cfg0 (adm m hO)).win 4).size x + (y x : ℕ)) (index4 m a b k d hs hg hO t))

/-! The blocks. -/

theorem iblk1_at (r : Fin 256) (j : Fin 6144) (R : Fin 65536) (hR : R.val = 256 * tl a b k d t.val + r.val) :
    (iblk (adm m hO) (V m) c 1 t : Vec Ideal S256x6144 .bf16) (ix2 r j) = m ((c : Thread nD τ).loc main_arg0) (ix2 R j) := by
  refine (congrArg (V m c main_arg0) ?_).trans (congrFun (V_main_arg0 m c) _)
  funext x
  refine Fin.ext ?_
  refine (emb1_val m a b k d hs hg hO t (ix2 r j) x).trans ?_
  fin_cases x
  · show tl a b k d t.val * 256 + r.val = R.val
    omega
  · show 0 * 6144 + j.val = j.val
    omega

variable (e : Fin 4) (he : ex a b k d t.val = e.val)
include he

theorem iblk2_at (j : Fin 6144) (q : Fin 4096) :
    (iblk (adm m hO) (V m) c 2 t : Vec Ideal S1x6144x4096 .fp8e4m3) (ix3 0 j q) = m ((c : Thread nD τ).loc main_arg3) (ix3 e j q) := by
  refine (congrArg (V m c main_arg3) ?_).trans (congrFun (V_main_arg3 m c) _)
  funext x
  refine Fin.ext ?_
  refine (emb2_val m a b k d hs hg hO t (ix3 0 j q) x).trans ?_
  fin_cases x
  · show ex a b k d t.val * 1 + 0 = e.val
    omega
  · show 0 * 6144 + j.val = j.val
    omega
  · show 0 * 4096 + q.val = q.val
    omega

theorem iblk3_at (q : Fin 4096) :
    (iblk (adm m hO) (V m) c 3 t : Vec Ideal S1x1x4096 .f32) (ix3 0 0 q) = m ((c : Thread nD τ).loc main_arg4) (ix2 e q) := by
  refine (congrArg (V m c main_v44) ?_).trans (v44_at m c e q)
  funext x
  refine Fin.ext ?_
  refine (emb3_val m a b k d hs hg hO t (ix3 0 0 q) x).trans ?_
  fin_cases x
  · show ex a b k d t.val * 1 + 0 = e.val
    omega
  · rfl
  · show 0 * 4096 + q.val = q.val
    omega

end Cert.Value
-- ==== Proof.Value.Cell.lean ====
/- One element of the result, in exact arithmetic: the quantised row times the two weight columns, each product scaled, the
   first through the logistic gate. -/
module

public import Idealize.ShloMosaic.PureOps.Ideal
public import Idealize.ShloMosaic.Lib.Pointwise

@[expose] public section

noncomputable section

namespace Cert.Value

open Idealize.ShloMosaic

/-- An activation over its expert's scale, clamped to the range of the 8-bit format. -/
def quant (s x : EReal) : EReal := min (Ideal.ofBits FTy.f32 1138753536#32) (max (Ideal.ofBits FTy.f32 3286237184#32) (Ideal.div x s))

/-- The quantised row times one weight column, with both scales. -/
def half (s : EReal) (x w : Fin 6144 → EReal) (sw : EReal) : EReal := (∑ k, quant s (x k) * w k) * (s * sw)

/-- One element of the result: the gate's half through x ↦ x · logistic x, times the other half. -/
def cell (s : EReal) (x wg wu : Fin 6144 → EReal) (sg su : EReal) : EReal :=
  half s x wg sg * Ideal.logistic (half s x wg sg) * half s x wu su

end Cert.Value
-- ==== Proof.Value.Chunk.lean ====
/- The output block that the kernel's body leaves at a live work item, element by element, in exact arithmetic. -/
module

public import proofs.«01_k».proof.Proof.KernelIdeal.Body
public import proofs.«01_k».proof.Proof.Value.Cell
public import Idealize.ShloMosaic.Lib.Pointwise

@[expose] public section

set_option maxRecDepth 16384

noncomputable section

namespace Cert.Value

open Idealize.ShloMosaic Idealize.ShloMosaic.TcCoe
open Cert.KernelIdeal Cert.KernelIdeal.Gen Cert.KernelIdeal.Hand

theorem chunkV_apply (s : Elt Ideal .f32) (mask : IVec S256x256 1) (x : Vec Ideal S256x6144 .bf16) (wg wu : Vec Ideal S1x6144x256 .fp8e4m3)
    (sg su : Vec Ideal S1x1x256 .f32) (old : Vec Ideal S256x256 .bf16) (r q : Fin 256) :
    chunkV s mask (k0_pay2 s x) wg wu sg su old (ix2 r q)
      = Scalar.select (mask (ix2 r q))
          (cell s (fun k => x (ix2 r k)) (fun k => wg (ix3 0 k q)) (fun k => wu (ix3 0 k q)) (sg (ix3 0 0 q)) (su (ix3 0 0 q)))
          (old (ix2 r q)) := by
  pointwise [chunkV, k0_pay6, k0_pay4, k0_pay5, k0_pay2]
  rfl

/-- The block in closed form: the rows of `M` hold the new elements, the others what they held. -/
def blockG (M : ℕ → Prop) [DecidablePred M] (s : Elt Ideal .f32) (x : Vec Ideal S256x6144 .bf16) (w : Vec Ideal S1x6144x4096 .fp8e4m3)
    (ws : Vec Ideal S1x1x4096 .f32) (Y : Vec Ideal S256x2048 .bf16) : Vec Ideal S256x2048 .bf16 := fun y =>
  if M (y 0).val then
    cell s (fun k => x (ix2 (y 0) k)) (fun k => w (ix3 0 k ⟨(y 1).val, Nat.lt_trans (y 1).isLt (by decide)⟩))
      (fun k => w (ix3 0 k ⟨2048 + (y 1).val, Nat.add_lt_add_left (y 1).isLt 2048⟩))
      (ws (ix3 0 0 ⟨(y 1).val, Nat.lt_trans (y 1).isLt (by decide)⟩)) (ws (ix3 0 0 ⟨2048 + (y 1).val, Nat.add_lt_add_left (y 1).isLt 2048⟩))
  else Y y

variable (M : ℕ → Prop) [DecidablePred M] (s : Elt Ideal .f32) (mask : IVec S256x256 1) (hM : ∀ r q, mask (ix2 r q) = 1#1 ↔ M r.val)
  (x : Vec Ideal S256x6144 .bf16) (w : Vec Ideal S1x6144x4096 .fp8e4m3) (ws : Vec Ideal S1x1x4096 .f32) (Y : Vec Ideal S256x2048 .bf16)

include hM

/-- One store's payload is the closed form under its rectangle. -/
theorem piece_eq (o o' : ℕ) (ho : o' = o + 2048) (h1 : ∀ a, (![0, 0, o] : Fin 3 → ℕ) a + S1x6144x256.size a ≤ S1x6144x4096.size a)
    (h2 : ∀ a, (![0, 0, o'] : Fin 3 → ℕ) a + S1x6144x256.size a ≤ S1x6144x4096.size a)
    (h3 : ∀ a, (![0, 0, o] : Fin 3 → ℕ) a + S1x1x256.size a ≤ S1x1x4096.size a)
    (h4 : ∀ a, (![0, 0, o'] : Fin 3 → ℕ) a + S1x1x256.size a ≤ S1x1x4096.size a)
    (h5 : ∀ a, (![0, o] : Fin 2 → ℕ) a + S256x256.size a ≤ S256x2048.size a) (j : S256x256.Idx) :
    chunkV s mask (k0_pay2 s x) (View.ld w (Rect.unit (s := S1x6144x4096) ![0, 0, o] S1x6144x256.size h1))
      (View.ld w (Rect.unit (s := S1x6144x4096) ![0, 0, o'] S1x6144x256.size h2)) (View.ld ws (Rect.unit (s := S1x1x4096) ![0, 0, o] S1x1x256.size h3))
      (View.ld ws (Rect.unit (s := S1x1x4096) ![0, 0, o'] S1x1x256.size h4)) (View.ld Y (Rect.unit (s := S256x2048) ![0, o] S256x256.size h5)) j
    = blockG M s x w ws Y ((Rect.unit (s := S256x2048) ![0, o] S256x256.size h5).emb j) := by
  obtain ⟨r, q, rfl⟩ : ∃ (r q : Fin 256), j = ix2 r q := ⟨j 0, j 1, by funext a; fin_cases a <;> rfl⟩
  subst ho
  rw [chunkV_apply]
  have e0 : (Rect.unit (s := S256x2048) ![0, o] S256x256.size h5).emb (ix2 r q) 0 = r := Fin.ext (by show 0 + 1 * r.val = r.val; omega)
  have e1 : ((Rect.unit (s := S256x2048) ![0, o] S256x256.size h5).emb (ix2 r q) 1).val = q.val + o := by show o + 1 * q.val = q.val + o; omega
  have hq : q.val + o < 2048 := by rw [← e1]; exact ((Rect.unit (s := S256x2048) ![0, o] S256x256.size h5).emb (ix2 r q) 1).isLt
  have w1 : ∀ k : Fin 6144, View.ld w (Rect.unit (s := S1x6144x4096) ![0, 0, o] S1x6144x256.size h1) (ix3 0 k q) = w (ix3 0 k ⟨q.val + o, by omega⟩) := fun k =>
    congrArg w (by funext a; refine Fin.ext ?_; fin_cases a; · rfl
                   · show 0 + 1 * k.val = k.val; omega
                   · show o + 1 * q.val = q.val + o; omega)
  have w2 : ∀ k : Fin 6144, View.ld w (Rect.unit (s := S1x6144x4096) ![0, 0, o + 2048] S1x6144x256.size h2) (ix3 0 k q) = w (ix3 0 k ⟨2048 + (q.val + o), by omega⟩) := fun k =>
    congrArg w (by funext a; refine Fin.ext ?_; fin_cases a; · rfl
                   · show 0 + 1 * k.val = k.val; omega
                   · show o + 2048 + 1 * q.val = 2048 + (q.val + o); omega)
  have s1 : View.ld ws (Rect.unit (s := S1x1x4096) ![0, 0, o] S1x1x256.size h3) (ix3 0 0 q) = ws (ix3 0 0 ⟨q.val + o, by omega⟩) :=
    congrArg ws (by funext a; refine Fin.ext ?_; fin_cases a; · rfl
                    · rfl
                    · show o + 1 * q.val = q.val + o; omega)
  have s2 : View.ld ws (Rect.unit (s := S1x1x4096) ![0, 0, o + 2048] S1x1x256.size h4) (ix3 0 0 q) = ws (ix3 0 0 ⟨2048 + (q.val + o), by omega⟩) :=
    congrArg ws (by funext a; refine Fin.ext ?_; fin_cases a; · rfl
                    · rfl
                    · show o + 2048 + 1 * q.val = 2048 + (q.val + o); omega)
  simp only [w1, w2, s1, s2]
  unfold blockG
  simp only [e0, e1]
  by_cases hr : M r.val
  · rw [if_pos hr, (hM r q).mpr hr]; rfl
  · rw [if_neg hr]
    have : mask (ix2 r q) = 0#1 := by
      have hn := fun h => hr ((hM r q).mp h)
      generalize mask (ix2 r q) = z at hn
      revert hn; revert z; decide
    rw [this]; rfl

theorem outV_eq : outV s mask x w ws Y = blockG M s x w ws Y := by
  funext y
  refine View.canon_apply_of_pieces (Val := Elt Ideal) (blockG M s x w ws Y) _ (fun p hp => ?_) y (outL_cover s mask (k0_pay2 s x) w ws Y y)
  unfold outL at hp
  simp only [List.mem_cons, List.not_mem_nil, or_false] at hp
  rcases hp with rfl | rfl | rfl | rfl | rfl | rfl | rfl | rfl <;>
    exact piece_eq M s mask hM x w ws Y _ _ rfl _ _ _ _ _

end Cert.Value
-- ==== Proof.Value.Words.lean ====
/- A row number between two words. -/
module

public import Idealize.ShloMosaic.Lib.WordCmp

@[expose] public section

namespace Cert.Value

open Idealize.ShloMosaic Idealize.ShloMosaic.WordCmp

theorem and_one (x y : BitVec 1) : IntOp.andi x y = 1#1 ↔ x = 1#1 ∧ y = 1#1 := by revert x y; decide

theorem addi_ofNat (x y : ℕ) : IntOp.addi (BitVec.ofNat 32 x) (BitVec.ofNat 32 y) = BitVec.ofNat 32 (x + y) := (BitVec.ofNat_add x y).symm

theorem between_word {n s d : ℕ} (hn : n < 2 ^ 31) (hs : s < 2 ^ 31) (hd : d < 2 ^ 31) :
    IntOp.andi (IntOp.cmpi .sge (BitVec.ofNat 32 n) (BitVec.ofNat 32 s)) (IntOp.cmpi .slt (BitVec.ofNat 32 n) (BitVec.ofNat 32 d)) = 1#1
      ↔ s ≤ n ∧ n < d := by
  rw [and_one, cmpi_sge_ofNat_eq_one_iff hn hs, cmpi_slt_ofNat_eq_one_iff hn hd]

end Cert.Value
-- ==== Proof.Value.Mask.lean ====
/- Which rows of its tile the kernel's body writes. -/
module

public import proofs.«01_k».proof.Proof.KernelIdeal.Body
public import proofs.«01_k».proof.Proof.Value.Words
public import Idealize.ShloMosaic.Lib.Pointwise

@[expose] public section

noncomputable section

namespace Cert.Value

open Idealize.ShloMosaic Idealize.ShloMosaic.TcCoe
open Cert.KernelIdeal Cert.KernelIdeal.Gen Cert.KernelIdeal.Hand

theorem pay3_apply (T S D : ℕ) (hT : T < 256) (hS : S ≤ 65536) (hD : D ≤ 65536) (r q : Fin 256) :
    k0_pay3 (F := Ideal) (BitVec.ofNat 32 T) (BitVec.ofNat 32 S) (BitVec.ofNat 32 D) (ix2 r q) = 1#1
      ↔ S ≤ 256 * T + r.val ∧ 256 * T + r.val < D := by
  pointwise [k0_pay3]
  have e : IntOp.addi (Scalar.muli (BitVec.ofNat 32 T) 256#32) (BitVec.ofNat 32 r.val) = BitVec.ofNat 32 (256 * T + r.val) := by
    rw [show Scalar.muli (BitVec.ofNat 32 T) 256#32 = BitVec.ofNat 32 (256 * T) from
      (congrArg (BitVec.ofNat 32) (Nat.mul_comm 256 T) ▸ (BitVec.ofNat_mul T 256).symm), addi_ofNat]
  rw [e]
  exact between_word (by omega) (by omega) (by omega)

end Cert.Value
-- ==== Proof.Value.Elt.lean ====
/- The result as one function of the arguments: a token's element is the one that its group's weights and scales give. -/
module

public import proofs.«01_k».proof.Proof.Value.Cell
public import proofs.«01_k».proof.Proof.Sched

@[expose] public section

noncomputable section

namespace Cert.Value

open Cert.Sched

variable (a b k d : ℕ)

/-- The group of a token, from the first three groups' sizes. -/
def grp (R : ℕ) : Fin 4 := if R < a then 0 else if R < a + b then 1 else if R < a + b + k then 2 else 3

/-- A token is in its group. -/
theorem grp_spec (hs : a + b + k + d = 65536) (R : ℕ) (hR : R < 65536) : st a b k (grp a b k R) ≤ R ∧ R < en a b k d (grp a b k R) := by
  unfold grp
  split_ifs <;> simp only [st, en, reduceIte, Nat.reduceEqDiff, OfNat.ofNat_ne_zero, one_ne_zero, Fin.isValue, Fin.val_zero, Fin.val_one, Fin.val_two, show (3 : Fin 4).val = 3 from rfl] <;> omega

/-- … and in no other. -/
theorem grp_unique (R : ℕ) (e : Fin 4) (h : st a b k e ≤ R ∧ R < en a b k d e) : grp a b k R = e := by
  unfold grp
  fin_cases e <;> simp [st, en] at h <;> split_ifs <;> first | rfl | omega

theorem mem_iff (hs : a + b + k + d = 65536) (R : ℕ) (hR : R < 65536) (e : Fin 4) : (st a b k e ≤ R ∧ R < en a b k d e) ↔ e = grp a b k R :=
  ⟨fun h => (grp_unique a b k d R e h).symm, fun h => h ▸ grp_spec a b k d hs R hR⟩

/-- The element of token `R` and column `q`, over the activation scales, the activations, the weights and their scales. -/
def elt (s : Fin 4 → EReal) (x : Fin 65536 → Fin 6144 → EReal) (w : Fin 4 → Fin 6144 → Fin 4096 → EReal) (ws : Fin 4 → Fin 4096 → EReal)
    (e : Fin 4) (R : Fin 65536) (q : Fin 2048) : EReal :=
  cell (s e) (x R) (fun j => w e j ⟨q.val, Nat.lt_trans q.isLt (by decide)⟩) (fun j => w e j ⟨2048 + q.val, Nat.add_lt_add_left q.isLt 2048⟩)
    (ws e ⟨q.val, Nat.lt_trans q.isLt (by decide)⟩) (ws e ⟨2048 + q.val, Nat.add_lt_add_left q.isLt 2048⟩)

end Cert.Value
-- ==== Proof.Value.Point.lean ====
/- The output block that the kernel leaves at a grid point, element by element, over the arguments. -/
module

public import proofs.«01_k».proof.Proof.Value.Blocks
public import proofs.«01_k».proof.Proof.Value.Chunk
public import proofs.«01_k».proof.Proof.Value.Mask
public import proofs.«01_k».proof.Proof.Value.Elt

@[expose] public section

set_option maxRecDepth 16384

noncomputable section

namespace Cert.Value

open Idealize.ShloMosaic Idealize.ShloMosaic.TcCoe Idealize.SL.Sem
open Cert.KernelIdeal Cert.KernelIdeal.Gen Cert.KernelIdeal.Hand Cert.Sched

variable (m : (ℓ : Loc nD τ sig) → Buf (Elt Ideal) ℓ) (c : Dev nD)

/-- A token's element for a group, over the kernel's arguments. -/
def kElt (e : Fin 4) (R : Fin 65536) (q : Fin 2048) : EReal :=
  elt (fun e => m ((c : Thread nD τ).loc main_arg2) (ix1 e)) (fun R j => m ((c : Thread nD τ).loc main_arg0) (ix2 R j))
    (fun e j q => m ((c : Thread nD τ).loc main_arg3) (ix3 e j q)) (fun e q => m ((c : Thread nD τ).loc main_arg4) (ix2 e q)) e R q

variable (a b k d : ℕ) (hs : a + b + k + d = 65536)
variable (hg : ∀ (c : Dev nD) (e : Fin 4), V m c main_arg1 (ValueIdx.ix1 e) = BitVec.ofNat 32 (sz a b k d e.val))
variable (hO : ok0 (F := Ideal) (tbl m)) (hk : Chk (adm m hO)) (t : Fin (cfg0 (adm m hO)).N)
include hs hg

/-- A point past the work items leaves the block as it found it. -/
theorem bodyOut_dead (ht : num a b k d ≤ t.val) (Y : Vec Ideal S256x2048 .bf16) : bodyOut (adm m hO) (V m) hk c t Y = Y :=
  dif_neg fun h => absurd ((live_iff m a b k d hs hg hO c t).mp h) (Nat.not_lt.2 ht)

/-- A work item writes its group's rows of its tile and leaves the others as it found them. -/
theorem bodyOut_live (ht : t.val < num a b k d) (e : Fin 4) (he : ex a b k d t.val = e.val) (Y : Vec Ideal S256x2048 .bf16) (r : Fin 256) (q : Fin 2048)
    (R : Fin 65536) (hR : R.val = 256 * tl a b k d t.val + r.val) :
    bodyOut (adm m hO) (V m) hk c t Y (ix2 r q)
      = if st a b k e ≤ R.val ∧ R.val < en a b k d e then kElt m c e R q else Y (ix2 r q) := by
  have hl : Live (adm m hO) c t := (live_iff m a b k d hs hg hO c t).mpr ht
  have h1 := st_add_sz a b k d e.val
  have h2 := en_le a b k d hs e.val
  obtain ⟨-, -, -, -, h8⟩ := tl_spec a b k d hs t.val
  have hT : tl a b k d t.val < 256 := by omega
  rw [show bodyOut (adm m hO) (V m) hk c t Y = _ from dif_pos hl, wT_eq m a b k d hs hg hO c t, wS_eq m a b k d hs hg hO hk c t e he hl,
    wD_eq m a b k d hs hg hO hk c t e he hl, wX_eq m a b k d hs hg hO hk c t e he hl]
  refine (congrFun (outV_eq (fun r => st a b k e.val ≤ 256 * tl a b k d t.val + r ∧ 256 * tl a b k d t.val + r < en a b k d e.val) _ _
    (fun r q => pay3_apply _ _ _ hT (by omega) (by omega) r q) (iblk (adm m hO) (V m) c 1 t) (iblk (adm m hO) (V m) c 2 t) (iblk (adm m hO) (V m) c 3 t) Y) (ix2 r q)).trans ?_
  unfold blockG kElt elt
  show (if st a b k e.val ≤ 256 * tl a b k d t.val + r.val ∧ 256 * tl a b k d t.val + r.val < en a b k d e.val then _ else _) = _
  rw [hR]
  refine if_congr Iff.rfl ?_ rfl
  have x1 : (fun j : Fin 6144 => (iblk (adm m hO) (V m) c 1 t : Vec Ideal S256x6144 .bf16) (ix2 r j)) = fun j => m ((c : Thread nD τ).loc main_arg0) (ix2 R j) :=
    funext fun j => iblk1_at m a b k d hs hg hO c t r j R hR
  have x2 : ∀ p : Fin 4096, (fun j : Fin 6144 => (iblk (adm m hO) (V m) c 2 t : Vec Ideal S1x6144x4096 .fp8e4m3) (ix3 0 j p)) = fun j => m ((c : Thread nD τ).loc main_arg3) (ix3 e j p) :=
    fun p => funext fun j => iblk2_at m a b k d hs hg hO c t e he j p
  have x3 := iblk3_at m a b k d hs hg hO c t e he
  exact congr (congr (congr (congr (congrArg (cell _) x1) (x2 _)) (x2 _)) (x3 _)) (x3 _)

end Cert.Value
-- ==== Proof.Order.lean ====
/- The order of the work items: from one grid point to the next the tile stays or goes up by one, a group follows the one
   that ends where it starts, and a tile is left when all its rows are treated. -/
module

public import proofs.«01_k».proof.Proof.Sched

@[expose] public section

namespace Cert.Sched

variable (a b c d : ℕ)

theorem num_le' (h : a + b + c + d = 65536) : num a b c d ≤ 259 := by
  have h0 := cnt_pos a b c d 0
  have h1 := cnt_pos a b c d 1
  have h2 := cnt_pos a b c d 2
  have h3 := cnt_pos a b c d 3
  unfold num cum pre
  simp only [sz, st, en, reduceIte, Nat.reduceEqDiff, OfNat.ofNat_ne_zero, one_ne_zero] at h0 h1 h2 h3 ⊢
  generalize cnt a b c d 0 = n0 at *
  generalize cnt a b c d 1 = n1 at *
  generalize cnt a b c d 2 = n2 at *
  generalize cnt a b c d 3 = n3 at *
  rcases Nat.eq_zero_or_pos n0 with z0 | z0 <;> rcases Nat.eq_zero_or_pos n1 with z1 | z1 <;>
    rcases Nat.eq_zero_or_pos n2 with z2 | z2 <;> rcases Nat.eq_zero_or_pos n3 with z3 | z3 <;>
    simp only [z0, z1, z2, z3, forall_const, Nat.lt_irrefl, false_implies] at h0 h1 h2 h3 ⊢ <;> omega

/-- A group that meets no tile has no rows. -/
theorem sz_zero (e : ℕ) (h : cnt a b c d e = 0) : sz a b c d e = 0 := by
  have := cnt_pos_of a b c d e
  omega

/-- An item that follows an item of another group follows the last of it, and its group starts where that one ends. -/
theorem next_group (e e' l : ℕ) (he : e < 4) (he' : e' < 4) (hne : e ≠ e') (h1 : pre a b c d e ≤ l) (h2 : l < cum a b c d e)
    (h3 : pre a b c d e' ≤ l + 1) (h4 : l + 1 < cum a b c d e') :
    pre a b c d e' = l + 1 ∧ cum a b c d e = l + 1 ∧ st a b c e' = en a b c d e := by
  have z0 := sz_zero a b c d 0
  have z1 := sz_zero a b c d 1
  have z2 := sz_zero a b c d 2
  have z3 := sz_zero a b c d 3
  unfold cum pre at *
  interval_cases e <;> interval_cases e' <;>
    simp only [sz, st, en, reduceIte, Nat.reduceEqDiff, OfNat.ofNat_ne_zero, one_ne_zero, ne_eq, not_true_eq_false] at * <;> first | omega | exact ⟨by omega, by omega, trivial⟩

/-- From one grid point to the next: nothing is left to do; or the group stays and its next tile comes; or the next group
    starts, in the tile where the group before it ends. -/
theorem step (h : a + b + c + d = 65536) (t : ℕ) :
    (num a b c d ≤ t + 1 ∧ ex a b c d (t + 1) = ex a b c d t ∧ tl a b c d (t + 1) = tl a b c d t)
    ∨ (t + 1 < num a b c d ∧ ex a b c d (t + 1) = ex a b c d t ∧ tl a b c d (t + 1) = tl a b c d t + 1)
    ∨ (t + 1 < num a b c d ∧ st a b c (ex a b c d (t + 1)) = en a b c d (ex a b c d t)
        ∧ tl a b c d t = (en a b c d (ex a b c d t) - 1) / 256 ∧ tl a b c d (t + 1) = en a b c d (ex a b c d t) / 256) := by
  by_cases hn : num a b c d ≤ t + 1
  · left
    have hl : lv a b c d (t + 1) = lv a b c d t := by unfold lv; omega
    have he : ex a b c d (t + 1) = ex a b c d t := by unfold ex; rw [hl]
    refine ⟨hn, he, ?_⟩
    unfold tl; rw [he, hl]
  · right
    have hl : lv a b c d t = t := by unfold lv; omega
    have hl' : lv a b c d (t + 1) = t + 1 := by unfold lv; omega
    obtain ⟨p1, p2, p3⟩ := ex_spec a b c d h t
    obtain ⟨q1, q2, q3⟩ := ex_spec a b c d h (t + 1)
    obtain ⟨r1, r2, -, -, -⟩ := tl_spec a b c d h t
    obtain ⟨s1, s2, -, -, -⟩ := tl_spec a b c d h (t + 1)
    rw [hl] at p2 p3 r2
    rw [hl'] at q2 q3 s2
    by_cases he : ex a b c d (t + 1) = ex a b c d t
    · left
      rw [he] at s2
      refine ⟨by omega, he, by omega⟩
    · right
      obtain ⟨u1, u2, u3⟩ := next_group a b c d _ _ t p1 q1 (Ne.symm he) p2 p3 q2 q3
      obtain ⟨-, v2⟩ := cnt_pos a b c d (ex a b c d t) (by unfold cum at p3; omega)
      unfold cum at u2
      refine ⟨by omega, u3, by omega, by omega⟩

/-- The first item starts with the first row. -/
theorem first (h : a + b + c + d = 65536) : st a b c (ex a b c d 0) = 0 ∧ tl a b c d 0 = 0 := by
  have hl : lv a b c d 0 = 0 := by unfold lv; omega
  obtain ⟨p1, p2, p3⟩ := ex_spec a b c d h 0
  obtain ⟨-, r2, -, -, -⟩ := tl_spec a b c d h 0
  rw [hl] at p2 p3 r2
  have z0 := sz_zero a b c d 0
  have z1 := sz_zero a b c d 1
  have z2 := sz_zero a b c d 2
  have hs : st a b c (ex a b c d 0) = 0 := by
    generalize ex a b c d 0 = e at *
    unfold cum pre at *
    interval_cases e <;>
      simp only [sz, st, reduceIte, Nat.reduceEqDiff, OfNat.ofNat_ne_zero, one_ne_zero] at * <;> omega
  exact ⟨hs, by rw [hs] at r2; omega⟩

/-- The last grid point's item ends with the last row. -/
theorem last (h : a + b + c + d = 65536) : en a b c d (ex a b c d 258) = 65536 ∧ tl a b c d 258 = 255 := by
  have hn := num_le' a b c d h
  have hp := num_pos a b c d h
  have hl : lv a b c d 258 + 1 = num a b c d := by unfold lv; omega
  obtain ⟨p1, p2, p3⟩ := ex_spec a b c d h 258
  obtain ⟨r1, r2, -, -, -⟩ := tl_spec a b c d h 258
  have z1 := sz_zero a b c d 1
  have z2 := sz_zero a b c d 2
  have z3 := sz_zero a b c d 3
  generalize ex a b c d 258 = e at *
  generalize lv a b c d 258 = l at *
  obtain ⟨-, v2⟩ := cnt_pos a b c d e (by unfold cum at p3; omega)
  have hs : en a b c d e = 65536 ∧ pre a b c d e + cnt a b c d e = l + 1 := by
    unfold num at hl
    unfold cum pre at *
    interval_cases e <;>
      simp only [sz, en, reduceIte, Nat.reduceEqDiff, OfNat.ofNat_ne_zero, one_ne_zero] at * <;> omega
  refine ⟨hs.1, ?_⟩
  rw [hs.1] at v2
  omega

/-- The tile is new at `t`. -/
def Fresh (t : ℕ) : Prop := t = 0 ∨ tl a b c d (t - 1) ≠ tl a b c d t

/-- A new tile is treated, and its group's rows start with the tile or before. -/
theorem fresh_spec (h : a + b + c + d = 65536) (t : ℕ) (hf : Fresh a b c d t) :
    t < num a b c d ∧ st a b c (ex a b c d t) ≤ 256 * tl a b c d t := by
  rcases Nat.eq_zero_or_pos t with rfl | h0
  · have := num_pos a b c d h
    obtain ⟨e1, e2⟩ := first a b c d h
    omega
  · obtain ⟨t, rfl⟩ : ∃ u, t = u + 1 := ⟨t - 1, by omega⟩
    have hf : tl a b c d t ≠ tl a b c d (t + 1) := by
      rcases hf with hf | hf
      · omega
      · exact hf
    obtain ⟨-, -, r3, -, -⟩ := tl_spec a b c d h t
    rcases step a b c d h t with ⟨-, -, s⟩ | ⟨s1, s2, s3⟩ | ⟨s1, s2, s3, s4⟩
    · exact absurd s.symm hf
    · rw [s2]; omega
    · omega

/-- Where the tile stays, the group's rows start where the group before ends, or the group stays. -/
theorem stay_spec (h : a + b + c + d = 65536) (t : ℕ) (ht : tl a b c d t = tl a b c d (t + 1)) :
    (num a b c d ≤ t + 1 ∧ ex a b c d (t + 1) = ex a b c d t)
      ∨ (t + 1 < num a b c d ∧ st a b c (ex a b c d (t + 1)) = en a b c d (ex a b c d t)) := by
  rcases step a b c d h t with ⟨s1, s2, -⟩ | ⟨s1, s2, s3⟩ | ⟨s1, s2, s3, s4⟩
  · exact .inl ⟨s1, s2⟩
  · omega
  · exact .inr ⟨s1, s2⟩

/-- The tile is left after `t`. -/
def Left (t : ℕ) : Prop := t = 258 ∨ tl a b c d (t + 1) ≠ tl a b c d t

/-- A tile is left when its last row is treated. -/
theorem left_spec (h : a + b + c + d = 65536) (t : ℕ) (hf : Left a b c d t) :
    256 * tl a b c d t + 256 ≤ en a b c d (ex a b c d t) := by
  rcases hf with rfl | hf
  · obtain ⟨e1, e2⟩ := last a b c d h
    omega
  · have hu := tl_spec a b c d h (t + 1)
    obtain ⟨r1, -, -, -, -⟩ := tl_spec a b c d h t
    have r2 := st_add_sz a b c d (ex a b c d t)
    rcases step a b c d h t with ⟨-, -, s⟩ | ⟨s1, s2, s3⟩ | ⟨s1, s2, s3, s4⟩
    · exact absurd s hf
    · rw [s2] at hu; omega
    · omega

/-- Every tile is left at some point. -/
theorem left_cover (h : a + b + c + d = 65536) (T : ℕ) (hT : T < 256) : ∃ t < 259, tl a b c d t = T ∧ Left a b c d t := by
  by_contra hno
  have key : ∀ t, t ≤ 258 → tl a b c d t ≤ T → False := by
    intro t ht
    induction hk : 258 - t generalizing t with
    | zero =>
      intro hle
      obtain rfl : t = 258 := by omega
      have := (last a b c d h).2
      exact hno ⟨258, by omega, by omega, .inl rfl⟩
    | succ n ih =>
      intro hle
      by_cases hs : tl a b c d (t + 1) ≤ T
      · exact ih (t + 1) (by omega) (by omega) hs
      · obtain ⟨r1, -, -, -, -⟩ := tl_spec a b c d h t
        have r2 := st_add_sz a b c d (ex a b c d t)
        refine hno ⟨t, by omega, ?_, .inr (by omega)⟩
        rcases step a b c d h t with ⟨-, -, s⟩ | ⟨s1, s2, s3⟩ | ⟨s1, s2, s3, s4⟩ <;> omega
  exact key 0 (by omega) (by have := (first a b c d h).2; omega)

end Cert.Sched
-- ==== Proof.Value.Keep.lean ====
/- What the kernel's output blocks hold: at every point, the rows of the tile below the point's group's end hold their
   tokens' elements. The body keeps this, so a tile that is written back, which its last group's end covers, is done. -/
module

public import proofs.«01_k».proof.Proof.Value.Point
public import proofs.«01_k».proof.Proof.Order

@[expose] public section

set_option maxRecDepth 16384

noncomputable section

namespace Cert.Value

open Idealize.ShloMosaic Idealize.ShloMosaic.TcCoe Idealize.SL.Sem
open Idealize.ShloMosaic.Pipeline (Window)
open Cert.KernelIdeal Cert.KernelIdeal.Gen Cert.KernelIdeal.Hand Cert.Sched

variable (m : (ℓ : Loc nD τ sig) → Buf (Elt Ideal) ℓ) (a b k d : ℕ) (hs : a + b + k + d = 65536)
variable (hg : ∀ (c : Dev nD) (e : Fin 4), V m c main_arg1 (ValueIdx.ix1 e) = BitVec.ofNat 32 (sz a b k d e.val))
variable (hO : ok0 (F := Ideal) (tbl m)) (hk : Chk (adm m hO))

/-- Point `n`'s block: the rows below its group's end are done. -/
def Done (n : ℕ) (X : Vec Ideal S256x2048 .bf16) : Prop :=
  ∀ (r : Fin 256) (q : Fin 2048) (R : Fin 65536), R.val = 256 * tl a b k d n + r.val → R.val < en a b k d (ex a b k d n) →
    X (ix2 r q) = kElt m 0 (grp a b k R.val) R q

include hs hg

/-- A block is written back at the last point of its tile. -/
theorem flush_iff (t : Fin (cfg0 (adm m hO)).N) : ((cfg0 (adm m hO)).win 4).flush t = true ↔ Left a b k d t.val := by
  have ht : t.val < 259 := t.isLt
  rw [Window.flush_out _ rfl]
  have hne : ∀ h, ((cfg0 (adm m hO)).win 4).index ⟨t.val + 1, h⟩ ≠ ((cfg0 (adm m hO)).win 4).index t ↔ tl a b k d (t.val + 1) ≠ tl a b k d t.val := fun h => by
    refine not_congr ?_
    have h1 := index4 m a b k d hs hg hO ⟨t.val + 1, h⟩
    have h2 := index4 m a b k d hs hg hO t
    refine ⟨fun e => congrFun (h1.symm.trans (e.trans h2)) (0 : Fin 2), fun e => h1.trans (Eq.trans ?_ h2.symm)⟩
    show (![tl a b k d (t.val + 1), 0] : Fin 2 → ℕ) = _
    rw [e]
  constructor
  · rintro (e | ⟨h, e⟩)
    · exact .inl (by have : t.val + 1 = 259 := e; omega)
    · exact .inr ((hne h).mp e)
  · rintro (e | e)
    · exact .inl (by show t.val + 1 = 259; omega)
    · by_cases h : t.val + 1 = 259
      · exact .inl h
      · have h' : t.val + 1 < 259 := by omega
        exact .inr ⟨h', (hne h').mpr e⟩

/-- At a live point it is enough that the rows above the group's first are done. -/
theorem done_live (c : Dev nD) (t : Fin (cfg0 (adm m hO)).N) (ht : t.val < num a b k d) (Y : Vec Ideal S256x2048 .bf16)
    (hY : ∀ (r : Fin 256) (q : Fin 2048) (R : Fin 65536), R.val = 256 * tl a b k d t.val + r.val → R.val < st a b k (ex a b k d t.val) →
      Y (ix2 r q) = kElt m 0 (grp a b k R.val) R q) :
    Done m a b k d t.val (bodyOut (adm m hO) (V m) hk c t Y) := by
  obtain rfl : c = 0 := Subsingleton.elim _ _
  obtain ⟨h4, -, -⟩ := ex_spec a b k d hs t.val
  intro r q R hR hE
  rw [bodyOut_live m 0 a b k d hs hg hO hk t ht ⟨ex a b k d t.val, h4⟩ rfl Y r q R hR]
  by_cases h : st a b k (ex a b k d t.val) ≤ R.val
  · rw [if_pos ⟨h, hE⟩, grp_unique a b k d R.val ⟨ex a b k d t.val, h4⟩ ⟨h, hE⟩]
  · rw [if_neg fun h' => h h'.1]
    exact hY r q R hR (Nat.lt_of_not_le h)

/-- The body keeps it. -/
theorem keeps : Keeps (adm m hO) (V m) hk (fun t X => Done m a b k d t.val X) := by
  have fresh : ∀ (c : Dev nD) (t : Fin (cfg0 (adm m hO)).N), Fresh a b k d t.val → ∀ Y, Done m a b k d t.val (bodyOut (adm m hO) (V m) hk c t Y) := fun c t hf Y => by
    obtain ⟨h1, h2⟩ := fresh_spec a b k d hs t.val hf
    exact done_live m a b k d hs hg hO hk c t h1 Y fun r q R hR hlt => absurd hlt (by omega)
  refine ⟨fun c t h Y => fresh c t ?_ Y, fun c t h0 Y hY => ?_⟩
  · rcases h with h | h
    · exact .inl h
    · by_cases h0 : t.val = 0
      · exact .inl h0
      · have ht : t.val < 259 := t.isLt
        rcases (flush_iff m a b k d hs hg hO _).mp h with e | e
        · exact absurd (show t.val - 1 = 258 from e) (by omega)
        · have e' : tl a b k d (t.val - 1 + 1) ≠ tl a b k d (t.val - 1) := e
          rw [Nat.sub_add_cancel (Nat.one_le_iff_ne_zero.mpr h0)] at e'
          exact .inr e'.symm
  · have e1 : t.val - 1 + 1 = t.val := Nat.sub_add_cancel (Nat.one_le_iff_ne_zero.mpr h0)
    by_cases hT : tl a b k d (t.val - 1) = tl a b k d t.val
    · rcases stay_spec a b k d hs (t.val - 1) (by rw [e1]; exact hT) with ⟨s1, s2⟩ | ⟨s1, s2⟩
      · rw [e1] at s1 s2
        rw [bodyOut_dead m c a b k d hs hg hO hk t s1 Y]
        intro r q R hR hE
        exact hY r q R (by rw [hR]; exact congrArg (fun n => 256 * n + r.val) hT.symm) (by rw [s2] at hE; exact hE)
      · rw [e1] at s1 s2
        refine done_live m a b k d hs hg hO hk c t s1 Y fun r q R hR hlt => ?_
        exact hY r q R (by rw [hR]; exact congrArg (fun n => 256 * n + r.val) hT.symm) (by rw [s2] at hlt; exact hlt)
    · exact fresh c t (.inr hT) Y

end Cert.Value
-- ==== Proof.Value.Out.lean ====
/- The kernel's result as a function of its arguments, and its run to it. -/
module

public import proofs.«01_k».proof.Proof.Value.Keep

@[expose] public section

set_option maxRecDepth 16384

noncomputable section

namespace Cert.Value

open Idealize.ShloMosaic Idealize.ShloMosaic.TcCoe Idealize.SL.Sem
open Idealize.ShloMosaic.Pipeline (Window RDat Dat)
open Cert.KernelIdeal Cert.KernelIdeal.Gen Cert.KernelIdeal.Hand Cert.Sched

variable (m : (ℓ : Loc nD τ sig) → Buf (Elt Ideal) ℓ) (a b k d : ℕ) (hs : a + b + k + d = 65536)
variable (hg : ∀ (c : Dev nD) (e : Fin 4), V m c main_arg1 (ValueIdx.ix1 e) = BitVec.ofNat 32 (sz a b k d e.val))
variable (hO : ok0 (F := Ideal) (tbl m))

/-- The result's array, over the argument arrays. -/
def kerG (c : Dev nD) : Vec Ideal S65536x2048 .bf16 := fun i => kElt m c (grp a b k (i 0).val) (i 0) (i 1)

include hs hg

/-- An element of an output block, in the array. -/
theorem emb4_eq (t : Fin (cfg0 (adm m hO)).N) (r : Fin 256) (q : Fin 2048) (R : Fin 65536) (hR : R.val = 256 * tl a b k d t.val + r.val) :
    (((cfg0 (adm m hO)).win 4).rect t).emb (ix2 r q) = ix2 R q := by
  funext x
  refine Fin.ext ?_
  refine (emb4_val m a b k d hs hg hO t (ix2 r q) x).trans ?_
  fin_cases x
  · show tl a b k d t.val * 256 + r.val = R.val
    omega
  · show 0 * 2048 + q.val = q.val
    omega

/-- Write-backs of done blocks leave the whole result. -/
theorem ker_arr (after : (w : Fin (cfg0 (adm m hO)).W) → Fin (cfg0 (adm m hO)).N → (((cfg0 (adm m hO)).win w).block.Idx → Elt Ideal ((cfg0 (adm m hO)).win w).elt))
    (hA : ∀ u, ((cfg0 (adm m hO)).win 4).flush u = true → Done m a b k d u.val (after 4 u)) :
    ((rdat m hO (fun t X => Done m a b k d t.val X) 0).withAfter after).arrAt 4 (cfg0 (adm m hO)).N = kerG m a b k 0 := by
  refine Dat.arrAt_eq_of_emb _ 4 _ (fun t hf y => ?_) fun i => ?_
  · obtain ⟨-, -, -, -, h8⟩ := tl_spec a b k d hs t.val
    obtain ⟨r, q, rfl⟩ : ∃ (r : Fin 256) (q : Fin 2048), y = ix2 r q := ⟨y (0 : Fin 2), y (1 : Fin 2), by funext a; revert a; exact Fin.forall_fin_two.mpr ⟨rfl, rfl⟩⟩
    have hl := left_spec a b k d hs t.val ((flush_iff m a b k d hs hg hO t).mp hf)
    have hr := r.isLt
    have h1 := hA t hf r q ⟨256 * tl a b k d t.val + r.val, by omega⟩ rfl (by show 256 * tl a b k d t.val + r.val < _; omega)
    exact Eq.trans h1 (congrArg (kerG m a b k 0) (emb4_eq m a b k d hs hg hO t r q _ rfl)).symm
  · obtain ⟨R, q, rfl⟩ : ∃ (R : Fin 65536) (q : Fin 2048), i = ix2 R q := ⟨i (0 : Fin 2), i (1 : Fin 2), by funext a; revert a; exact Fin.forall_fin_two.mpr ⟨rfl, rfl⟩⟩
    have hR := R.isLt
    obtain ⟨t, ht, hT, hl⟩ := left_cover a b k d hs (R.val / 256) (by omega)
    refine ⟨⟨t, ht⟩, (flush_iff m a b k d hs hg hO ⟨t, ht⟩).mpr hl, ?_⟩
    have h1 := emb4_eq m a b k d hs hg hO ⟨t, ht⟩ ⟨R.val % 256, Nat.mod_lt _ (by decide)⟩ q R (by show R.val = 256 * tl a b k d t + R.val % 256; rw [hT]; omega)
    rw [← h1]
    exact (((cfg0 (adm m hO)).win 4).blk ⟨t, ht⟩).view.emb_mem_set _

omit hO in
/-- The kernel runs to its end with the result in its result array and its arguments unchanged. -/
theorem ker_run (ρ : Dev nD → PrngReg) : θ_run defs (onTc (τ := τ) (main (F := Ideal))) ⟨m, fun _ => 0, ρ⟩ (fun r => ∀ c : Dev nD,
      r.2.mem ((c.tc : Thread nD τ).loc main_v45) = kerG m a b k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok_tbl m a b k d hs hg
  have hk := chk_tbl m a b k d hs hg hO
  refine (θ_run defs _ _).mono (fun r hr c => ⟨?_, ?_, ?_, ?_, ?_, ?_⟩)
    (run_main m ρ hO hk _ (keeps m a b k d hs hg hO hk))
  · obtain rfl : c = 0 := Subsingleton.elim _ _
    obtain ⟨after, hL, hA⟩ := RDat.FramePost.exists_exact hr.1 0
    exact (hA 4).trans (ker_arr m a b k d hs hg hO after fun u hu =>
      (dats (adm m hO) (V m) 0).toRRel_leaves (fgt := fgt (adm m hO)) (Rl := Rl (adm m hO) fun t X => Done m a b k d t.val X) (w := 4) rfl (hL 4 u hu))
  · exact (post_in m hO _ r hr.1 c 1 rfl).trans (V_main_arg0 m c)
  · exact (post_rest m hO _ r hr.1 c main_arg1 (Pipeline.mem_restRefs_of _ rfl arr_ne_arg1)).trans (V_main_arg1 m c)
  · exact (post_in m hO _ r hr.1 c 0 rfl).trans (V_main_arg2 m c)
  · exact (post_in m hO _ r hr.1 c 2 rfl).trans (V_main_arg3 m c)
  · exact (post_rest m hO _ r hr.1 c main_arg4 (Pipeline.mem_restRefs_of _ rfl arr_ne_arg4)).trans (V_main_arg4 m c)

end Cert.Value
-- ==== Proof.Value.RefBody.lean ====
/- What the reference's body leaves, element by element, in exact arithmetic: a token of group `e` gets the element that
   group `e`'s weights and scales give. -/
module

public import proofs.«01_k».proof.Proof.Gen.ReferenceIdeal.Value
public import proofs.«01_k».proof.Proof.Value.Cell
public import proofs.«01_k».proof.Proof.Value.Words
public import proofs.«01_k».proof.Proof.Sched
public import Idealize.ShloMosaic.Lib.Pointwise
public import Idealize.ShloMosaic.Lib.Pipeline.ValueKit

@[expose] public section

set_option maxRecDepth 16384

noncomputable section

namespace Cert.Value

open Idealize.ShloMosaic Idealize.ShloMosaic.TcCoe
open Cert.ReferenceIdeal Cert.ReferenceIdeal.Gen Cert.Sched

/-- The reference's body over its group sizes `n`, activation scales `s`, activations `x`, weights `w` and weight scales `ws`. -/
def refV (n : Fin 4 → BitVec 32) (s : Fin 4 → Elt Ideal .f32) (x : Vec Ideal S65536x6144 .bf16) (w : Fin 4 → Vec Ideal S1x6144x4096 .fp8e4m3)
    (ws : Fin 4 → Vec Ideal S1x4096 .f32) : Vec Ideal S65536x2048 .bf16 :=
  k0_pay1 (k0_pay4 (F := Ideal) (n 0) (n 1) (n 2)) (k0_pay5 (F := Ideal) (n 0) (n 1) (n 2) (n 3))
    (k0_pay7 (k0_pay5 (F := Ideal) (n 0) (n 1) (n 2) (n 3)) (k0_pay6 (n 0) (n 0) (n 1) (n 1) (n 2) (s 0) (s 1) (s 2)) (s 3))
    (k0_pay8 (k0_pay5 (F := Ideal) (n 0) (n 1) (n 2) (n 3)) (k0_pay6 (n 0) (n 0) (n 1) (n 1) (n 2) (s 0) (s 1) (s 2)) (s 3) x)
    (k0_pay9 (k0_pay2 (F := Ideal) (n 0)) (k0_pay3 (F := Ideal) (n 0) (n 1)) (k0_pay5 (F := Ideal) (n 0) (n 1) (n 2) (n 3))
      (k0_pay6 (n 0) (n 0) (n 1) (n 1) (n 2) (s 0) (s 1) (s 2)) (s 3) x (w 0) (w 1))
    (k0_pay10 (k0_pay2 (F := Ideal) (n 0)) (k0_pay3 (F := Ideal) (n 0) (n 1)) (ws 0) (ws 1)) (w 2) (ws 2) (w 3) (ws 3)

/-- Group `e`'s weights, and its weight scales. -/
def wRow (w : Vec Ideal S4x6144x4096 .fp8e4m3) (e : Fin 4) : Vec Ideal S1x6144x4096 .fp8e4m3 := fun j => w (ix3 e (j 1) (j 2))
def sRow (ws : Vec Ideal S4x4096 .f32) (e : Fin 4) : Vec Ideal S1x4096 .f32 := fun j => ws (ix2 e (j 1))

theorem ld_word {α : EltTy} (x : Vec Ideal S4 α) (e : Fin 4) (h : ∀ a, (![e.val] : Fin 1 → ℕ) a + S1.size a ≤ S4.size a) (h1) :
    View.ld (Val := Elt Ideal) x (Rect.unit (s := S4) ![e.val] S1.size h) (Shape.Idx.first h1) = x (ix1 e) :=
  congrArg x (by funext a; fin_cases a; exact Fin.ext (by show e.val + 1 * 0 = e.val; omega))

theorem ld_w (w : Vec Ideal S4x6144x4096 .fp8e4m3) (e : Fin 4) (h : ∀ a, (![e.val, 0, 0] : Fin 3 → ℕ) a + S1x6144x4096.size a ≤ S4x6144x4096.size a) :
    View.ld (Val := Elt Ideal) w (Rect.unit (s := S4x6144x4096) ![e.val, 0, 0] S1x6144x4096.size h) = wRow w e :=
  funext fun j => congrArg w (by
    funext a; refine Fin.ext ?_
    fin_cases a
    · have h0 : (j 0).val < 1 := (j 0).isLt
      show e.val + 1 * (j 0).val = e.val; omega
    · show 0 + 1 * (j 1).val = (j 1).val; omega
    · show 0 + 1 * (j 2).val = (j 2).val; omega)

theorem ld_s (ws : Vec Ideal S4x4096 .f32) (e : Fin 4) (h : ∀ a, (![e.val, 0] : Fin 2 → ℕ) a + S1x4096.size a ≤ S4x4096.size a) :
    View.ld (Val := Elt Ideal) ws (Rect.unit (s := S4x4096) ![e.val, 0] S1x4096.size h) = sRow ws e :=
  funext fun j => congrArg ws (by
    funext a; refine Fin.ext ?_
    fin_cases a
    · have h0 : (j 0).val < 1 := (j 0).isLt
      show e.val + 1 * (j 0).val = e.val; omega
    · show 0 + 1 * (j 1).val = (j 1).val; omega)

theorem outs_eq (m : (ℓ : Loc nD τ sig) → Buf (Elt Ideal) ℓ) (c : Dev nD) (t : Fin cfg0.N) :
    outsAt0 m c t = refV (fun e => (iblk m c 0 t : Vec Ideal S4 .i32) (ix1 e)) (fun e => (iblk m c 1 t : Vec Ideal S4 .f32) (ix1 e)) (iblk m c 2 t)
      (wRow (iblk m c 3 t)) (sRow (iblk m c 4 t)) := by
  unfold outsAt0
  frame_out
  generalize iblk m c 0 t = y0, iblk m c 1 t = y1, iblk m c 2 t = y2, iblk m c 3 t = y3, iblk m c 4 t = y4
  rw [(hs0_0 t).read_unread y0]
  rw [(hs0_1 t).read_unread y1, (hs0_2 t).read_unread y2, (hs0_3 t).read_unread y3, (hs0_4 t).read_unread y4]
  have n0 : ∀ h h1, View.ld (Val := Elt Ideal) y0 (Rect.unit (s := S4) ![0] ![1] h) (Shape.Idx.first h1) = y0 (ix1 0) := fun h h1 => ld_word _ 0 h h1
  have n1 : ∀ h h1, View.ld (Val := Elt Ideal) y0 (Rect.unit (s := S4) ![1] ![1] h) (Shape.Idx.first h1) = y0 (ix1 1) := fun h h1 => ld_word _ 1 h h1
  have n2 : ∀ h h1, View.ld (Val := Elt Ideal) y0 (Rect.unit (s := S4) ![2] ![1] h) (Shape.Idx.first h1) = y0 (ix1 2) := fun h h1 => ld_word _ 2 h h1
  have n3 : ∀ h h1, View.ld (Val := Elt Ideal) y0 (Rect.unit (s := S4) ![3] ![1] h) (Shape.Idx.first h1) = y0 (ix1 3) := fun h h1 => ld_word _ 3 h h1
  have s0 : ∀ h h1, View.ld (Val := Elt Ideal) y1 (Rect.unit (s := S4) ![0] ![1] h) (Shape.Idx.first h1) = y1 (ix1 0) := fun h h1 => ld_word _ 0 h h1
  have s1 : ∀ h h1, View.ld (Val := Elt Ideal) y1 (Rect.unit (s := S4) ![1] ![1] h) (Shape.Idx.first h1) = y1 (ix1 1) := fun h h1 => ld_word _ 1 h h1
  have s2 : ∀ h h1, View.ld (Val := Elt Ideal) y1 (Rect.unit (s := S4) ![2] ![1] h) (Shape.Idx.first h1) = y1 (ix1 2) := fun h h1 => ld_word _ 2 h h1
  have s3 : ∀ h h1, View.ld (Val := Elt Ideal) y1 (Rect.unit (s := S4) ![3] ![1] h) (Shape.Idx.first h1) = y1 (ix1 3) := fun h h1 => ld_word _ 3 h h1
  have w0 : ∀ h, View.ld (Val := Elt Ideal) y3 (Rect.unit (s := S4x6144x4096) ![0, 0, 0] ![1, 6144, 4096] h) = wRow y3 0 := fun h => ld_w _ 0 h
  have w1 : ∀ h, View.ld (Val := Elt Ideal) y3 (Rect.unit (s := S4x6144x4096) ![1, 0, 0] ![1, 6144, 4096] h) = wRow y3 1 := fun h => ld_w _ 1 h
  have w2 : ∀ h, View.ld (Val := Elt Ideal) y3 (Rect.unit (s := S4x6144x4096) ![2, 0, 0] ![1, 6144, 4096] h) = wRow y3 2 := fun h => ld_w _ 2 h
  have w3 : ∀ h, View.ld (Val := Elt Ideal) y3 (Rect.unit (s := S4x6144x4096) ![3, 0, 0] ![1, 6144, 4096] h) = wRow y3 3 := fun h => ld_w _ 3 h
  have v0 : ∀ h, View.ld (Val := Elt Ideal) y4 (Rect.unit (s := S4x4096) ![0, 0] ![1, 4096] h) = sRow y4 0 := fun h => ld_s _ 0 h
  have v1 : ∀ h, View.ld (Val := Elt Ideal) y4 (Rect.unit (s := S4x4096) ![1, 0] ![1, 4096] h) = sRow y4 1 := fun h => ld_s _ 1 h
  have v2 : ∀ h, View.ld (Val := Elt Ideal) y4 (Rect.unit (s := S4x4096) ![2, 0] ![1, 4096] h) = sRow y4 2 := fun h => ld_s _ 2 h
  have v3 : ∀ h, View.ld (Val := Elt Ideal) y4 (Rect.unit (s := S4x4096) ![3, 0] ![1, 4096] h) = sRow y4 3 := fun h => ld_s _ 3 h
  rw [n0, n1, n2, n3, s0, s1, s2, s3, w0, w1, w2, w3, v0, v1, v2, v3]
  rfl

section Masks

variable (a b k d : ℕ) (hs : a + b + k + d = 65536) (R : Fin 65536)

include hs

/-- The four membership masks: token `R` is in group `e` when it is at or after the group's first and before its end. -/
theorem mem0 : k0_pay2 (F := Ideal) (BitVec.ofNat 32 (sz a b k d 0)) (ix2 R 0) = 1#1 ↔ st a b k 0 ≤ R.val ∧ R.val < en a b k d 0 := by
  pointwise [k0_pay2]
  rw [show Scalar.addi 0#32 (BitVec.ofNat 32 (sz a b k d 0)) = BitVec.ofNat 32 (en a b k d 0) from (addi_ofNat 0 _).trans (congrArg _ (st_add_sz a b k d 0))]
  exact between_word (by omega) (by decide) (by have := en_le a b k d hs 0; omega)

theorem mem1 : k0_pay3 (F := Ideal) (BitVec.ofNat 32 (sz a b k d 0)) (BitVec.ofNat 32 (sz a b k d 1)) (ix2 R 0) = 1#1
    ↔ st a b k 1 ≤ R.val ∧ R.val < en a b k d 1 := by
  pointwise [k0_pay3]
  rw [show Scalar.addi 0#32 (BitVec.ofNat 32 (sz a b k d 0)) = BitVec.ofNat 32 (st a b k 1) from (addi_ofNat 0 _).trans (congrArg _ (st_add_sz a b k d 0)),
    show Scalar.addi (BitVec.ofNat 32 (st a b k 1)) (BitVec.ofNat 32 (sz a b k d 1)) = BitVec.ofNat 32 (en a b k d 1) from (addi_ofNat _ _).trans (congrArg _ (st_add_sz a b k d 1))]
  have h0 := st_add_sz a b k d 1
  have h1 := en_le a b k d hs 1
  exact between_word (by omega) (by omega) (by omega)

theorem mem2 : k0_pay4 (F := Ideal) (BitVec.ofNat 32 (sz a b k d 0)) (BitVec.ofNat 32 (sz a b k d 1)) (BitVec.ofNat 32 (sz a b k d 2)) (ix2 R 0) = 1#1
    ↔ st a b k 2 ≤ R.val ∧ R.val < en a b k d 2 := by
  pointwise [k0_pay4]
  rw [show Scalar.addi 0#32 (BitVec.ofNat 32 (sz a b k d 0)) = BitVec.ofNat 32 (st a b k 1) from (addi_ofNat 0 _).trans (congrArg _ (st_add_sz a b k d 0)),
    show Scalar.addi (BitVec.ofNat 32 (st a b k 1)) (BitVec.ofNat 32 (sz a b k d 1)) = BitVec.ofNat 32 (st a b k 2) from (addi_ofNat _ _).trans (congrArg _ (st_add_sz a b k d 1)),
    show Scalar.addi (BitVec.ofNat 32 (st a b k 2)) (BitVec.ofNat 32 (sz a b k d 2)) = BitVec.ofNat 32 (en a b k d 2) from (addi_ofNat _ _).trans (congrArg _ (st_add_sz a b k d 2))]
  have h0 := st_add_sz a b k d 2
  have h1 := en_le a b k d hs 2
  exact between_word (by omega) (by omega) (by omega)

theorem mem3 : k0_pay5 (F := Ideal) (BitVec.ofNat 32 (sz a b k d 0)) (BitVec.ofNat 32 (sz a b k d 1)) (BitVec.ofNat 32 (sz a b k d 2))
      (BitVec.ofNat 32 (sz a b k d 3)) (ix2 R 0) = 1#1 ↔ st a b k 3 ≤ R.val ∧ R.val < en a b k d 3 := by
  pointwise [k0_pay5]
  rw [show Scalar.addi 0#32 (BitVec.ofNat 32 (sz a b k d 0)) = BitVec.ofNat 32 (st a b k 1) from (addi_ofNat 0 _).trans (congrArg _ (st_add_sz a b k d 0)),
    show Scalar.addi (BitVec.ofNat 32 (st a b k 1)) (BitVec.ofNat 32 (sz a b k d 1)) = BitVec.ofNat 32 (st a b k 2) from (addi_ofNat _ _).trans (congrArg _ (st_add_sz a b k d 1)),
    show Scalar.addi (BitVec.ofNat 32 (st a b k 2)) (BitVec.ofNat 32 (sz a b k d 2)) = BitVec.ofNat 32 (st a b k 3) from (addi_ofNat _ _).trans (congrArg _ (st_add_sz a b k d 2)),
    show Scalar.addi (BitVec.ofNat 32 (st a b k 3)) (BitVec.ofNat 32 (sz a b k d 3)) = BitVec.ofNat 32 (en a b k d 3) from (addi_ofNat _ _).trans (congrArg _ (st_add_sz a b k d 3))]
  have h0 := st_add_sz a b k d 3
  have h1 := en_le a b k d hs 3
  exact between_word (by omega) (by omega) (by omega)

end Masks

theorem bit_zero {z : BitVec 1} (h : z ≠ 1#1) : z = 0#1 := by revert h; revert z; decide

variable (n : Fin 4 → BitVec 32) (s : Fin 4 → Elt Ideal .f32) (x : Vec Ideal S65536x6144 .bf16) (w : Fin 4 → Vec Ideal S1x6144x4096 .fp8e4m3)
    (ws : Fin 4 → Vec Ideal S1x4096 .f32) (R : Fin 65536) (q : Fin 2048) (e : Fin 4)

/-- At a token of group `e` only, the body's element is group `e`'s. -/
theorem refV_apply (h0 : k0_pay2 (F := Ideal) (n 0) (ix2 R 0) = 1#1 ↔ 0 = e) (h1 : k0_pay3 (F := Ideal) (n 0) (n 1) (ix2 R 0) = 1#1 ↔ 1 = e)
    (h2 : k0_pay4 (F := Ideal) (n 0) (n 1) (n 2) (ix2 R 0) = 1#1 ↔ 2 = e) (h3 : k0_pay5 (F := Ideal) (n 0) (n 1) (n 2) (n 3) (ix2 R 0) = 1#1 ↔ 3 = e) :
    refV n s x w ws (ix2 R q) = cell (s e) (fun k => x (ix2 R k)) (fun k => w e (ix3 0 k ⟨q.val, Nat.lt_trans q.isLt (by decide)⟩))
      (fun k => w e (ix3 0 k ⟨2048 + q.val, Nat.add_lt_add_left q.isLt 2048⟩)) (ws e (ix2 0 ⟨q.val, Nat.lt_trans q.isLt (by decide)⟩))
      (ws e (ix2 0 ⟨2048 + q.val, Nat.add_lt_add_left q.isLt 2048⟩)) := by
  pointwise [refV, k0_pay1, k0_pay6, k0_pay7, k0_pay8, k0_pay9, k0_pay10]
  generalize k0_pay2 (F := Ideal) (n 0) (ix2 R 0) = m0 at *
  generalize k0_pay3 (F := Ideal) (n 0) (n 1) (ix2 R 0) = m1 at *
  generalize k0_pay4 (F := Ideal) (n 0) (n 1) (n 2) (ix2 R 0) = m2 at *
  generalize k0_pay5 (F := Ideal) (n 0) (n 1) (n 2) (n 3) (ix2 R 0) = m3 at *
  have s1 : ∀ u v : EReal, Scalar.select 1#1 u v = u := fun _ _ => rfl
  have s0 : ∀ u v : EReal, Scalar.select 0#1 u v = v := fun _ _ => rfl
  fin_cases e
  · rw [h0.mpr rfl, bit_zero (fun h => absurd (h1.mp h) (by decide)), bit_zero (fun h => absurd (h2.mp h) (by decide)), bit_zero (fun h => absurd (h3.mp h) (by decide))]
    simp only [s0, s1]; rfl
  · rw [h1.mpr rfl, bit_zero (fun h => absurd (h0.mp h) (by decide)), bit_zero (fun h => absurd (h2.mp h) (by decide)), bit_zero (fun h => absurd (h3.mp h) (by decide))]
    simp only [s0, s1]; rfl
  · rw [h2.mpr rfl, bit_zero (fun h => absurd (h0.mp h) (by decide)), bit_zero (fun h => absurd (h1.mp h) (by decide)), bit_zero (fun h => absurd (h3.mp h) (by decide))]
    simp only [s0, s1]; rfl
  · rw [h3.mpr rfl, bit_zero (fun h => absurd (h0.mp h) (by decide)), bit_zero (fun h => absurd (h1.mp h) (by decide)), bit_zero (fun h => absurd (h2.mp h) (by decide))]
    simp only [s0, s1]; rfl

end Cert.Value
-- ==== Proof.Value.Ref.lean ====
/- The reference's result as a function of its arguments. -/
module

public import proofs.«01_k».proof.Proof.Value.RefBody
public import proofs.«01_k».proof.Proof.Value.Elt

@[expose] public section

set_option maxRecDepth 16384

noncomputable section

namespace Cert.Value

open Idealize.ShloMosaic Idealize.ShloMosaic.TcCoe Idealize.SL.Sem
open Cert.ReferenceIdeal Cert.ReferenceIdeal.Gen Cert.Sched

variable (m : (ℓ : Loc nD τ sig) → Buf (Elt Ideal) ℓ) (c : Dev nD) (a b k d : ℕ) (hs : a + b + k + d = 65536)
  (hg : ∀ e : Fin 4, m ((c : Thread nD τ).loc main_arg1) (ix1 e) = BitVec.ofNat 32 (sz a b k d e))

/-- The result's array, over the argument arrays. -/
def refG : Vec Ideal S65536x2048 .bf16 := fun i =>
  elt (fun e => m ((c : Thread nD τ).loc main_arg2) (ix1 e)) (fun R j => m ((c : Thread nD τ).loc main_arg0) (ix2 R j))
    (fun e j q => m ((c : Thread nD τ).loc main_arg3) (ix3 e j q)) (fun e q => m ((c : Thread nD τ).loc main_arg4) (ix2 e q)) (grp a b k (i 0).val) (i 0) (i 1)

/-! Each window is its whole array: a block's index is the array's. -/

theorem emb0 (t : Fin cfg0.N) (y) : (win0_0.blk t).view.emb y = y := by
  have h : ∀ (t : Fin cfg0.N) (a : Fin 1), win0_0.index t a = 0 := by decide +kernel
  funext x
  refine Fin.ext ?_
  blk_simp
  rw [h t x, Nat.zero_mul, Nat.zero_add]

theorem emb1 (t : Fin cfg0.N) (y) : (win0_1.blk t).view.emb y = y := by
  have h : ∀ (t : Fin cfg0.N) (a : Fin 1), win0_1.index t a = 0 := by decide +kernel
  funext x
  refine Fin.ext ?_
  blk_simp
  rw [h t x, Nat.zero_mul, Nat.zero_add]

theorem emb2 (t : Fin cfg0.N) (y) : (win0_2.blk t).view.emb y = y := by
  have h : ∀ (t : Fin cfg0.N) (a : Fin 2), win0_2.index t a = 0 := by decide +kernel
  funext x
  refine Fin.ext ?_
  blk_simp
  rw [h t x, Nat.zero_mul, Nat.zero_add]

theorem emb3 (t : Fin cfg0.N) (y) : (win0_3.blk t).view.emb y = y := by
  have h : ∀ (t : Fin cfg0.N) (a : Fin 3), win0_3.index t a = 0 := by decide +kernel
  funext x
  refine Fin.ext ?_
  blk_simp
  rw [h t x, Nat.zero_mul, Nat.zero_add]

theorem emb4 (t : Fin cfg0.N) (y) : (win0_4.blk t).view.emb y = y := by
  have h : ∀ (t : Fin cfg0.N) (a : Fin 2), win0_4.index t a = 0 := by decide +kernel
  funext x
  refine Fin.ext ?_
  blk_simp
  rw [h t x, Nat.zero_mul, Nat.zero_add]

theorem emb5 (t : Fin cfg0.N) (y) : (win0_5.blk t).view.emb y = y := by
  have h : ∀ (t : Fin cfg0.N) (a : Fin 2), win0_5.index t a = 0 := by decide +kernel
  funext x
  refine Fin.ext ?_
  blk_simp
  rw [h t x, Nat.zero_mul, Nat.zero_add]

theorem iblk0 (t : Fin cfg0.N) : (iblk m c 0 t : Vec Ideal S4 .i32) = m ((c : Thread nD τ).loc main_arg1) := by
  funext y
  unfold iblk
  blk_simp
  exact (congrArg (V m c main_arg1) (emb0 t y)).trans (congrFun (V_main_arg1 m c) y)

theorem iblk1 (t : Fin cfg0.N) : (iblk m c 1 t : Vec Ideal S4 .f32) = m ((c : Thread nD τ).loc main_arg2) := by
  funext y
  unfold iblk
  blk_simp
  exact (congrArg (V m c main_arg2) (emb1 t y)).trans (congrFun (V_main_arg2 m c) y)

theorem iblk2 (t : Fin cfg0.N) : (iblk m c 2 t : Vec Ideal S65536x6144 .bf16) = m ((c : Thread nD τ).loc main_arg0) := by
  funext y
  unfold iblk
  blk_simp
  exact (congrArg (V m c main_arg0) (emb2 t y)).trans (congrFun (V_main_arg0 m c) y)

theorem iblk3 (t : Fin cfg0.N) : (iblk m c 3 t : Vec Ideal S4x6144x4096 .fp8e4m3) = m ((c : Thread nD τ).loc main_arg3) := by
  funext y
  unfold iblk
  blk_simp
  exact (congrArg (V m c main_arg3) (emb3 t y)).trans (congrFun (V_main_arg3 m c) y)

theorem iblk4 (t : Fin cfg0.N) : (iblk m c 4 t : Vec Ideal S4x4096 .f32) = m ((c : Thread nD τ).loc main_arg4) := by
  funext y
  unfold iblk
  blk_simp
  exact (congrArg (V m c main_arg4) (emb4 t y)).trans (congrFun (V_main_arg4 m c) y)

include hs hg

/-- The reference's result array. -/
theorem ref_arr : (dats m 0 c).arrAt 5 cfg0.N = refG m c a b k := by
  refine (dats m 0 c).arrAt_eq_of_covers 5 _ (by decide +kernel) fun t hf y => ?_
  blk_simp
  rw [after0_5, outs_eq, iblk0, iblk1, iblk2, iblk3, iblk4]
  refine Eq.trans ?_ (congrArg (refG m c a b k) (emb5 t y)).symm
  obtain ⟨R, q, rfl⟩ : ∃ (R : Fin 65536) (q : Fin 2048), y = ix2 R q := ⟨y 0, y 1, by funext a; fin_cases a <;> rfl⟩
  have h := mem_iff a b k d hs R.val R.isLt
  refine refV_apply _ _ _ _ _ R q (grp a b k R.val) ?_ ?_ ?_ ?_
  · rw [hg 0]; exact (mem0 a b k d hs R).trans (h 0)
  · rw [hg 0, hg 1]; exact (mem1 a b k d hs R).trans (h 1)
  · rw [hg 0, hg 1, hg 2]; exact (mem2 a b k d hs R).trans (h 2)
  · rw [hg 0, hg 1, hg 2, hg 3]; exact (mem3 a b k d hs R).trans (h 3)

end Cert.Value
-- ==== Proof.Sizes.lean ====
/- What the precondition says of the group sizes: four natural numbers, their sum the number of tokens. -/
module

public import proofs.«01_k».proof.Proof.Gen.Pre_pre
public import proofs.«01_k».proof.Proof.Sched
public import Idealize.ShloMosaic.Lib.ReduceAll
public import Idealize.ShloMosaic.Lib.WordCmp
public import Idealize.ShloMosaic.Lib.Routing.Ops

@[expose] public section

noncomputable section

namespace Cert.Sched

open Idealize.ShloMosaic

variable {F : FTy → Type} [FloatOps F]

/-- Two bits whose conjunction is one are both one. -/
theorem and_one (x y : BitVec 1) (h : IntOp.andi x y = 1#1) : x = 1#1 ∧ y = 1#1 := by
  revert x y; decide

/-- A word between zero and the number of tokens, as a signed number, is one as a natural number. -/
theorem le_of_signed (x : BitVec 32) (h0 : IntOp.cmpi .sge x 0#32 = 1#1) (h1 : IntOp.cmpi .sle x 65536#32 = 1#1) : x.toNat ≤ 65536 := by
  have h0' : (0#32).sle x = true := by
    by_contra hh; rw [Bool.not_eq_true] at hh; simp [IntOp.cmpi, hh] at h0
  have h1' : x.sle 65536#32 = true := by
    by_contra hh; rw [Bool.not_eq_true] at hh; simp [IntOp.cmpi, hh] at h1
  rw [BitVec.sle_iff_toInt_le] at h0' h1'
  have e0 : (0#32).toInt = 0 := rfl
  have e1 : (65536#32).toInt = 65536 := rfl
  rw [e0] at h0'; rw [e1] at h1'
  have hx := x.isLt
  have hc := BitVec.toInt_eq_toNat_cond x
  split at hc <;> omega

/-- The precondition's group sizes, as natural numbers. -/
theorem sizes (x : FVec F Cert.Pre_pre.S65536x6144 .bf16) (g : IVec Cert.Pre_pre.S4 32) (s : FVec F Cert.Pre_pre.S4 .f32)
    (w : FVec F Cert.Pre_pre.S4x6144x4096 .fp8e4m3) (ws : FVec F Cert.Pre_pre.S4x4096 .f32)
    (h : Cert.Pre_pre.fn x g s w ws = fun _ => 1#1) :
    ∃ a b k d : ℕ, a + b + k + d = 65536 ∧ ∀ e : Fin 4, g (ValueIdx.ix1 e) = BitVec.ofNat 32 (sz a b k d e.val) := by
  have h0 := congrFun h ValueIdx.ix0
  obtain ⟨hall, hsum⟩ := and_one _ _ h0
  haveI : Subsingleton Cert.Pre_pre.S_.Idx := ⟨fun p q => funext fun z => z.elim0⟩
  have hle (e : Fin 4) : (g (ValueIdx.ix1 e)).toNat ≤ 65536 := by
    obtain ⟨p, q⟩ := and_one _ _ (Host.reduce_andi_all _ _ _ _ _ hall (ValueIdx.ix1 e))
    exact le_of_signed _ p q
  have hsz (e : Fin 4) : g (ValueIdx.ix1 e) = BitVec.ofNat 32 (sz (g (ValueIdx.ix1 0)).toNat (g (ValueIdx.ix1 1)).toNat (g (ValueIdx.ix1 2)).toNat (g (ValueIdx.ix1 3)).toNat e.val) := by
    fin_cases e <;> exact (BitVec.eq_of_toNat_eq (by simp [sz])).symm
  refine ⟨_, _, _, _, ?_, hsz⟩
  have hr := Routing.reduce_sum (N := 4) g _ hsz Cert.Pre_pre.Facts.reducesTo_S4_S_d0 Cert.Pre_pre.Facts.h_S_
  have h2 := hsum
  change IntOp.cmpi .eq (Host.reduce IntOp.addi g (constantI Routing.shape0 32 0#32) Cert.Pre_pre.Facts.reducesTo_S4_S_d0 Cert.Pre_pre.Facts.h_S_ ValueIdx.ix0) (BitVec.ofNat 32 65536) = 1#1 at h2
  rw [hr] at h2
  have l0 := hle 0
  have l1 := hle 1
  have l2 := hle 2
  have l3 := hle 3
  have hs4 : ((List.range 4).map (sz (g (ValueIdx.ix1 0)).toNat (g (ValueIdx.ix1 1)).toNat (g (ValueIdx.ix1 2)).toNat (g (ValueIdx.ix1 3)).toNat)).sum
      = (g (ValueIdx.ix1 0)).toNat + ((g (ValueIdx.ix1 1)).toNat + ((g (ValueIdx.ix1 2)).toNat + ((g (ValueIdx.ix1 3)).toNat + 0))) := rfl
  rw [hs4] at h2
  have := (WordCmp.cmpi_eq_ofNat_eq_one_iff (by omega) (by omega)).1 h2
  omega

end Cert.Sched

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.Gen.Pre_pre
public import proofs.«01_k».proof.Proof.Kernel.Frame
public import proofs.«01_k».proof.Proof.KernelIdeal.Frame
public import proofs.«01_k».proof.Proof.Value.Out
public import proofs.«01_k».proof.Proof.Value.Ref
public import proofs.«01_k».proof.Proof.Sizes
public import Idealize.ShloMosaic.Adequacy
public import Idealize.ShloMosaic.Init

@[expose] public section

noncomputable section

namespace Cert.Proof

open Idealize.ShloMosaic Idealize.SL.Sem

theorem kernel_frame : Cert.quiescent_Kernel (hKernel := Cert.Kernel.Gen.facts) (hPre_pre := Cert.Pre_pre.Gen.facts) := fun m g hp => by
  obtain ⟨a, b, k, d, hs, hg⟩ := Cert.Sched.sizes _ _ _ _ _ (hp 0)
  refine Cert.Kernel.Hand.frame m a b k d hs (fun c e => ?_) g
  obtain rfl : c = 0 := Subsingleton.elim _ _
  exact (congrFun (Cert.Kernel.Hand.V_main_arg1 m 0) _).trans (hg e)

theorem kernelIdeal_frame : Cert.quiescent_KernelIdeal (hKernelIdeal := Cert.KernelIdeal.Gen.facts) (hPre_pre := Cert.Pre_pre.Gen.facts) := fun m g hp => by
  obtain ⟨a, b, k, d, hs, hg⟩ := Cert.Sched.sizes _ _ _ _ _ (hp 0)
  refine Cert.KernelIdeal.Hand.frame m a b k d hs (fun c e => ?_) g
  obtain rfl : c = 0 := Subsingleton.elim _ _
  exact (congrFun (Cert.KernelIdeal.Hand.V_main_arg1 m 0) _).trans (hg e)

theorem kernelIdeal_value : Cert.algebraic_KernelIdeal_ReferenceIdeal (hKernelIdeal := Cert.KernelIdeal.Gen.facts) (hReferenceIdeal := Cert.ReferenceIdeal.Gen.facts)
    (hPre_pre := Cert.Pre_pre.Gen.facts) := fun m g m' g' hp ht => by
  obtain ⟨a, b, k, d, hs, hg⟩ := Cert.Sched.sizes _ _ _ _ _ (hp 0)
  refine ⟨fun c => Cert.Value.kerG m a b k c, Cert.Value.ker_run m a b k d hs (fun c e => ?_) g,
    (θ_run Cert.ReferenceIdeal.defs _ _).mono (fun r hr c => ⟨(hr c).1.trans ?_, (hr c).2⟩) (Cert.ReferenceIdeal.Value.run_blocks m' g')⟩
  · obtain rfl : c = 0 := Subsingleton.elim _ _
    exact (congrFun (Cert.KernelIdeal.Hand.V_main_arg1 m 0) _).trans (hg e)
  · obtain rfl : c = 0 := Subsingleton.elim _ _
    obtain ⟨h0, h1, h2, h3, h4⟩ := ht 0
    refine (Cert.Value.ref_arr m' 0 a b k d hs fun e => ?_).trans ?_
    · exact (congrFun h1 _).trans ((congrArg _ (Cert.KernelIdeal.Hand.i1 e)).trans (hg e))
    · unfold Cert.Value.refG Cert.Value.kerG Cert.Value.kElt
      rw [h0, h2, h3, h4]

theorem claim : Cert.Claim := ⟨Cert.Kernel.Gen.facts, Cert.KernelIdeal.Gen.facts, Cert.ReferenceIdeal.Gen.facts, Cert.Pre_pre.Gen.facts,
  kernel_frame, kernelIdeal_frame, fun m g _ => Cert.ReferenceIdeal.Gen.frame m g, trivial, kernelIdeal_value⟩

end Cert.Proof

end
